-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labelled_KernelIdeal [hPre_labelled_KernelIdeal : Cert.Pre_labelled_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labelled_ReferenceIdeal [hPre_labelled_ReferenceIdeal : Cert.Pre_labelled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labelled_KernelIdeal [hKernelIdeal : Cert.KernelIdeal.Facts] [hPre_labelled_KernelIdeal : Cert.Pre_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labelled_ReferenceIdeal [hReferenceIdeal : Cert.ReferenceIdeal.Facts] [hPre_labelled_ReferenceIdeal : Cert.Pre_labelled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labelled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labelled_KernelIdeal [hKernelIdeal : Cert.KernelIdeal.Facts] [hReferenceIdeal : Cert.ReferenceIdeal.Facts] [hPre_labelled_KernelIdeal : Cert.Pre_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labelled_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labelled_KernelIdeal : Cert.Pre_labelled_KernelIdeal.Facts) (hPre_labelled_ReferenceIdeal : Cert.Pre_labelled_ReferenceIdeal.Facts),
    quiescent_Kernel (hKernel := hKernel)
    ∧ quiescent_KernelIdeal (hKernelIdeal := hKernelIdeal)
    ∧ quiescent_KernelIdeal_pre_labelled_KernelIdeal (hKernelIdeal := hKernelIdeal) (hPre_labelled_KernelIdeal := hPre_labelled_KernelIdeal)
    ∧ quiescent_ReferenceIdeal (hReferenceIdeal := hReferenceIdeal)
    ∧ quiescent_ReferenceIdeal_pre_labelled_ReferenceIdeal (hReferenceIdeal := hReferenceIdeal) (hPre_labelled_ReferenceIdeal := hPre_labelled_ReferenceIdeal)
    ∧ preserves_Kernel_KernelIdeal
    ∧ algebraic_KernelIdeal_ReferenceIdeal_pre_labelled_KernelIdeal (hKernelIdeal := hKernelIdeal) (hReferenceIdeal := hReferenceIdeal) (hPre_labelled_KernelIdeal := hPre_labelled_KernelIdeal)
-- ==== Pre_labelled_KernelIdeal.lean ====
abbrev S512x1024 : Shape := ⟨2, ![512, 1024]⟩
abbrev S1024x8192 : Shape := ⟨2, ![1024, 8192]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S512x1024 .f32) (main_arg1 : FVec F S1024x8192 .f32) (main_arg2 : IVec S512x1 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 32 := constantI S_ 32 16384#32
  let main_v11 : IVec S512x1 32 := broadcastInDim S512x1 ![] bcast_S_S512x1 main_c_3
  let main_v12 : IVec S512x1 1 := cmpi .slt main_arg2 main_v11
  let main_v13 : IVec S512x1 1 := andi main_v10 main_v12
  let main_c_4 : IVec S_ 1 := constantI S_ 1 1#1
  let main_v14 : IVec S_ 1 := (fun x v => Host.reduce IntOp.andi x v reducesTo_S512x1_S_d0_1 h_S_) main_v13 main_c_4
  let main_v15 : IVec S_ 1 := andi main_v8 main_v14
  main_v15
-- ==== Pre_labelled_ReferenceIdeal.lean ====
abbrev S512x1024 : Shape := ⟨2, ![512, 1024]⟩
abbrev S1024x16384 : Shape := ⟨2, ![1024, 16384]⟩
abbrev S512x1 : Shape := ⟨2, ![512, 1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S512x1024 .f32) (main_arg1 : FVec F S1024x16384 .f32) (main_arg2 : IVec S512x1 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_c_2 : IVec S_ 32 := constantI S_ 32 0#32
  let main_v9 : IVec S512x1 32 := broadcastInDim S512x1 ![] bcast_S_S512x1 main_c_2
  let main_v10 : IVec S512x1 1 := cmpi .sge main_arg2 main_v9
  let main_c_3 : IVec S_ 32 := constantI S_ 32 16384#32
  let main_v11 : IVec S512x1 32 := broadcastInDim S512x1 ![] bcast_S_S512x1 main_c_3
  let main_v12 : IVec S512x1 1 := cmpi .slt main_arg2 main_v11
  let main_v13 : IVec S512x1 1 := andi main_v10 main_v12
  let main_c_4 : IVec S_ 1 := constantI S_ 1 1#1
  let main_v14 : IVec S_ 1 := (fun x v => Host.reduce IntOp.andi x v reducesTo_S512x1_S_d0_1 h_S_) main_v13 main_c_4
  let main_v15 : IVec S_ 1 := andi main_v8 main_v14
  main_v15
-- ==== Kernel.lean ====
abbrev S512x1024 : Shape := ⟨2, ![512, 1024]⟩
abbrev S1024x8192 : Shape := ⟨2, ![1024, 8192]⟩
abbrev S512x1 : Shape := ⟨2, ![512, 1]⟩
abbrev S1024x1024 : Shape := ⟨2, ![1024, 1024]⟩
abbrev S512x8 : Shape := ⟨2, ![512, 8]⟩
abbrev S_ : Shape := ⟨0, ![]⟩
abbrev S512 : Shape := ⟨1, ![512]⟩
abbrev S512x6 : Shape := ⟨2, ![512, 6]⟩

abbrev nBuf : Space → Nat
  | .hbm => 4
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x1, .i32⟩
  | .hbm, ⟨3, _⟩ => ⟨S512x1, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S512x1, .i32⟩
  | .local _ .vmem, ⟨4, _⟩ => ⟨S512x1, .f32⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x8, .f32⟩
  | .local _ .vmem, ⟨9, _⟩ => ⟨S512x8, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 4
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_20 : BitVec 32 := 0#32
  let v45 : BitVec 1 := Scalar.cmpi .ne v44 c0_i32_20
  v45

def k0_dev1 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v47 : BitVec 32 := Scalar.muli v2 c2_i32_22
  let v48 : BitVec 32 := Scalar.addi c0_i32_23 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v49 : BitVec 32 := Scalar.muli v6 c1_i32_24
  let v50 : BitVec 32 := Scalar.addi v48 v49
  v50.toNat
def k0_dev2 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v63 : BitVec 32 := Scalar.muli v2 c2_i32_35
  let v64 : BitVec 32 := Scalar.addi c0_i32_36 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_37 : BitVec 32 := 1#32
  let v65 : BitVec 32 := Scalar.muli v6 c1_i32_37
  let v66 : BitVec 32 := Scalar.addi v64 v65
  v66.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S512x1024 : Shape := ⟨2, ![512, 1024]⟩
abbrev S1024x16384 : Shape := ⟨2, ![1024, 16384]⟩
abbrev S512x1 : Shape := ⟨2, ![512, 1]⟩
abbrev S512 : Shape := ⟨1, ![512]⟩
abbrev S512x16384 : Shape := ⟨2, ![512, 16384]⟩
abbrev S_ : Shape := ⟨0, ![]⟩
abbrev S512x2 : Shape := ⟨2, ![512, 2]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x1, .i32⟩
  | .hbm, ⟨3, _⟩ => ⟨S512, .i32⟩
  | .hbm, ⟨4, _⟩ => ⟨S512x16384, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16384, .f32⟩
  | .hbm, ⟨9, _⟩ => ⟨S512x16384, .f32⟩
  | .hbm, ⟨10, _⟩ => ⟨S512x16384, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512, .f32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512x1, .i32⟩
  | .hbm, ⟨34, _⟩ => ⟨S512x2, .i32⟩
  | .hbm, ⟨35, _⟩ => ⟨S512, .f32⟩
  | .hbm, ⟨36, _⟩ => ⟨S512, .f32⟩
  | .hbm, ⟨37, _⟩ => ⟨S512x1, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Owned.lean ====
/- Loads and stores of a buffer held through `owns`: the load continues at the held contents read on its
   rectangle, the store leaves the contents with the rectangle overwritten. And the few equations of
   contents overwritten on a rectangle (`Rect.overlay`) that a body of whole-buffer and column-wise
   accesses needs. No program is named here. -/
module

public import Idealize.ShloMosaic.Lib.Pipeline.FrameBody
public import Idealize.ShloMosaic.Lib.Pipeline.Value
public import Idealize.ShloMosaic.Lib.Rounds
public import Idealize.ShloMosaic.Lib.Tactic

@[expose] public section

noncomputable section

namespace Cert.Owned

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Val : EltTy → Type} {Λ : Labels}
variable {Ix : Type} [DecidableEq Ix] {Name : Type} [DecidableEq Name] {U : Type} [URA U] {Lvl : Type} [Preorder Lvl]

variable (defs : Defs nD τ sig Val Λ) (𝒱 : Variants) (c : Dev nD) {α : Type} {Q : α → sProp (MT nD τ sig Ix Val Name U Lvl)}
variable {cs : CoreSpace} {s : Shape} {e : EltTy} (m : Memref sig .tc cs s e) (r : Rect s)

/-- A load of a rectangle of a held buffer continues at the held contents on the rectangle. -/
theorem wp_load {q : PosShare TreeShare} (X : s.Idx → Val e) {hl : m.view.LoadsAt r.toLoadRect}
    {k : (r.shape.Idx → Val e) → Prog (TpuEff nD τ sig Val Λ .tc) α} :
    (owns (c : Thread nD τ) m q X : sProp (MT nD τ sig Ix Val Name U Lvl))
      ⊢ iprop((owns (c : Thread nD τ) m q X -∗ wp frame (wpE defs 𝒱 (c : Thread nD τ) none) Set.univ (k (View.ld X r)) Q)
          -∗ wp frame (wpE defs 𝒱 (c : Thread nD τ) none) Set.univ (.op (.load m r.toLoadRect hl) k) Q) := by
  unfold owns
  iintro ⟨%f, %hf, H⟩ Hk
  subst hf
  iapply (Idealize.ShloMosaic.wp_load 𝒱 (c : Thread nD τ) none Set.univ (m := m) (r := r.toLoadRect)
    (S := m.view.set) (f := f) (View.setOn_subset_set m.view _)) $$ H
  iintro H
  rw [View.readAt_eq_ld]
  iapply Hk
  iexists f
  isplitr; · (ipureintro; rfl)
  iexact H

/-- A store over a rectangle of a buffer held outright leaves the contents with the rectangle overwritten. -/
theorem wp_store (X : s.Idx → Val e) (w : r.shape.Idx → Val e) {hx : (m.access r).Stores Finset.univ}
    {hm : (Finset.univ : Finset r.shape.Idx) = Finset.univ ∨ ∀ a, r.stride a = 1}
    {k : PUnit → Prog (TpuEff nD τ sig Val Λ .tc) α} :
    (owns (c : Thread nD τ) m fullShare X : sProp (MT nD τ sig Ix Val Name U Lvl))
      ⊢ iprop((owns (c : Thread nD τ) m fullShare (r.overlay X w) -∗ wp frame (wpE defs 𝒱 (c : Thread nD τ) none) Set.univ (k ⟨⟩) Q)
          -∗ wp frame (wpE defs 𝒱 (c : Thread nD τ) none) Set.univ (.op (.store m r w Finset.univ hx hm) k) Q) := by
  unfold owns
  iintro ⟨%f, %hf, H⟩ Hk
  subst hf
  iapply (Idealize.ShloMosaic.wp_store 𝒱 (c : Thread nD τ) none Set.univ (m := m) (r := r) (w := w) (Mk := Finset.univ)
    (S := m.view.set) (f := f) (by
      intro i hi
      obtain ⟨x, -, rfl⟩ := Finset.mem_map.mp hi
      exact Finset.mem_map.mpr ⟨r.emb x, Finset.mem_univ _, rfl⟩)) $$ H
  iintro H
  iapply Hk
  iexists ((m.view.slice r).write Val f w Finset.univ)
  isplitr
  · ipureintro
    funext y
    by_cases hy : y ∈ r.set
    · obtain ⟨x, rfl⟩ := r.exists_idx_of_mem hy
      exact (View.read_slice_write_emb (v := m.view) r f w (Finset.mem_univ x)).trans (r.overlay_emb _ _ x).symm
    · exact (View.read_slice_write_of_not_mem (v := m.view) r f w Finset.univ (by rwa [Rect.map_emb_univ])).trans
        (r.overlay_of_not_mem _ _ hy).symm
  iexact H

end Rules

section Overlay

variable {s : Shape} {α : Type}

/-- A store over the whole shape leaves its payload. -/
theorem overlay_whole {off : Fin s.rank → Nat} (h : off = fun _ => 0) (inb : ∀ a, off a + s.size a ≤ s.size a)
    (X w : s.Idx → α) : (Rect.unit off s.size inb).overlay X w = w := by
  subst h
  funext y
  have e := (Rect.whole s).overlay_emb X w y
  rw [Rect.emb_whole_apply] at e
  exact e

/-- Overwriting on a rectangle forgets what was there: contents that agree off it become equal. -/
theorem overlay_congr (r : Rect s) {X Y : s.Idx → α} (w : r.shape.Idx → α) {y : s.Idx} (h : y ∉ r.set → X y = Y y) :
    r.overlay X w y = r.overlay Y w y := by
  by_cases hy : y ∈ r.set
  · obtain ⟨x, hx⟩ := Finset.mem_map.mp ((Rect.map_emb_univ (r := r)).symm ▸ hy)
    rw [← hx.2, r.overlay_emb, r.overlay_emb]
  · rw [r.overlay_of_not_mem _ _ hy, r.overlay_of_not_mem _ _ hy, h hy]

end Overlay

section Whole

variable {nD : Nat} {τ : Topo} {sig : RefSig} {Val : EltTy → Type} {Λ : Labels}
variable {Ix : Type} [DecidableEq Ix] {Name : Type} [DecidableEq Name] {U : Type} [URA U] {Lvl : Type} [Preorder Lvl]
variable (defs : Defs nD τ sig Val Λ) (𝒱 : Variants) (c : Dev nD) {α : Type} {Q : α → sProp (MT nD τ sig Ix Val Name U Lvl)}
variable {cs : CoreSpace} {s : Shape} {e : EltTy} (m : Memref sig .tc cs s e)
variable {off : Fin s.rank → Nat} (h0 : off = fun _ => 0) {inb : ∀ a, off a + s.size a ≤ s.size a}

include h0

/-- A load of the whole of a held buffer continues at its contents. -/
theorem wp_load_whole {q : PosShare TreeShare} (X : s.Idx → Val e) {hl : m.view.LoadsAt (Rect.unit off s.size inb).toLoadRect}
    {k : (s.Idx → Val e) → Prog (TpuEff nD τ sig Val Λ .tc) α} :
    (owns (c : Thread nD τ) m q X : sProp (MT nD τ sig Ix Val Name U Lvl))
      ⊢ iprop((owns (c : Thread nD τ) m q X -∗ wp frame (wpE defs 𝒱 (c : Thread nD τ) none) Set.univ (k X) Q)
          -∗ wp frame (wpE defs 𝒱 (c : Thread nD τ) none) Set.univ (.op (.load m (Rect.unit off s.size inb).toLoadRect hl) k) Q) := by
  have h := wp_load (Ix := Ix) (Name := Name) (U := U) (Lvl := Lvl) defs 𝒱 c (Q := Q) m (Rect.unit off s.size inb) (q := q) X (hl := hl) (k := k)
  rwa [View.ld_unit_zero h0] at h

/-- A store over the whole of a held buffer leaves its payload. -/
theorem wp_store_whole (X w : s.Idx → Val e) {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ .tc) α} :
    (owns (c : Thread nD τ) m fullShare X : sProp (MT nD τ sig Ix Val Name U Lvl))
      ⊢ iprop((owns (c : Thread nD τ) m fullShare w -∗ wp frame (wpE defs 𝒱 (c : Thread nD τ) none) Set.univ (k ⟨⟩) Q)
          -∗ wp frame (wpE defs 𝒱 (c : Thread nD τ) none) Set.univ (.op (.store m (Rect.unit off s.size inb) w Finset.univ hx hm) k) Q) := by
  have h := wp_store (Ix := Ix) (Name := Name) (U := U) (Lvl := Lvl) defs 𝒱 c (Q := Q) m (Rect.unit off s.size inb) X w (hx := hx) (hm := hm) (k := k)
  rwa [overlay_whole h0] at h

end Whole

section Copy

variable {nD : Nat} {τ : Topo} {sig : RefSig} {Val : EltTy → Type} {Λ : Labels}
variable {Ix : Type} [DecidableEq Ix] {Name : Type} [DecidableEq Name] {U : Type} [URA U] {Lvl : Type} [Preorder Lvl]
variable {D : Type} [DecidableEq D]
variable (defs : Defs nD τ sig Val Λ) (𝒱 : Variants)
variable (E : Emb (Rounds.URounds (GSem nD τ sig) D) (MT nD τ sig Ix Val Name U Lvl)) [E.LandsIn (upEmb : UEmb _ (MT nD τ sig Ix Val Name U Lvl))]
variable (Rd : Rounds.Schedule (GSem nD τ sig) D (MT nD τ sig Ix Val Name U Lvl))
  [∀ g r d, BI.Storable (upEmb : UEmb _ (MT nD τ sig Ix Val Name U Lvl)) (Rd.payload g r d)]
variable (c c' : Dev nD) {α : Type} {Q : α → sProp (MT nD τ sig Ix Val Name U Lvl)}
variable {cs : Space} {s : Shape} {e : EltTy} (src dst : Memref sig .tc cs s e)

/-- A copy of one held buffer into another held outright, on another device: the first, as it was, pays the duty of
    the sender's semaphore, the second, at the contents copied, the duty of the receiver's. -/
theorem wp_copy {hsc : dst.view.ref.isScScratch = false} {sS sem : SemLoc sig} {hsrc : src.view.WordExact} {hdst : dst.view.WordExact}
    {hsem : DmaTarget.Typed cs sem (.remote (c' : Thread nD τ) dst sS hsc)} {k : PUnit → Prog (TpuEff nD τ sig Val Λ .tc) α}
    {q : PosShare TreeShare} (X Y : s.Idx → Val e) {r₁ r₂ : ℕ} {d₁ d₂ : D} {κ₁ κ₂ : Name}
    (hd₁ : d₁ ∈ Rd.duties ((c : Thread nD τ), sS) r₁) (hd₂ : d₂ ∈ Rd.duties ((c' : Thread nD τ), sem) r₂)
    (ι ι' : Ix) (N : ℕ) (hN : dst.view.amount sem = N)
    (hk₁ : Rd.amount ((c : Thread nD τ), sS) r₁ d₁ = N) (hk₂ : Rd.amount ((c' : Thread nD τ), sem) r₂ d₂ = N) {W : Waits sig Ix}
    (hpay₁ : owns (c : Thread nD τ) src q X ⊢ Rd.payload ((c : Thread nD τ), sS) r₁ d₁)
    (hpay₂ : owns (c' : Thread nD τ) dst fullShare X ⊢ Rd.payload ((c' : Thread nD τ), sem) r₂ d₂) :
    iprop(Rounds.cellInv E Rd κ₁ ((c : Thread nD τ), sS) ∗ Rounds.cellInv E Rd κ₂ ((c' : Thread nD τ), sem)
        ∗ owns (c : Thread nD τ) src q X ∗ owns (c' : Thread nD τ) dst fullShare Y
        ∗ owes (c : Thread nD τ) (tallyAt ((c' : Thread nD τ), sem) ι N) W
        ∗ Rounds.dutyTok E ((c : Thread nD τ), sS) r₁ d₁ ∗ Rounds.reached E ((c : Thread nD τ), sS) r₁
        ∗ Rounds.dutyTok E ((c' : Thread nD τ), sem) r₂ d₂ ∗ Rounds.reached E ((c' : Thread nD τ), sem) r₂)
      ⊢ iprop(((cred (tallyAt ((c : Thread nD τ), sS) ι' N) ∗ owes (c : Thread nD τ) 0 W)
            -∗ wp frame (wpE defs 𝒱 (c : Thread nD τ) none) Set.univ (k ⟨⟩) Q)
          -∗ wp frame (wpE defs 𝒱 (c : Thread nD τ) none) Set.univ
              (.op (.enqueueDma src (.remote (c' : Thread nD τ) dst sS hsc) sem hsrc hdst hsem) k) Q) := by
  have p₁ : ∀ fs, src.view.read Val fs = X → (src.view.loc (c : Thread nD τ) ↦[src.view.set]{q} fs) ⊢ Rd.payload ((c : Thread nD τ), sS) r₁ d₁ :=
    fun fs h => Entails.trans (by unfold owns; iintro H; iexists fs; isplitr; · (ipureintro; exact h)
                                  iexact H) hpay₁
  have p₂ : ∀ fs fd, src.view.read Val fs = X →
      (dst.view.loc (c' : Thread nD τ) ↦[dst.view.set]{fullShare} (dst.view.write Val fd (src.view.read Val fs) Finset.univ))
        ⊢ Rd.payload ((c' : Thread nD τ), sem) r₂ d₂ :=
    fun fs fd h => Entails.trans (by unfold owns; iintro H; iexists (dst.view.write Val fd (src.view.read Val fs) Finset.univ)
                                     isplitr; · (ipureintro; rw [View.read_write_univ]; exact h)
                                     iexact H) hpay₂
  unfold owns
  iintro ⟨HI1, HI2, ⟨%fs, %hs, H1⟩, ⟨%fd, %hd, H2⟩, HO, HT1, HR1, HT2, HR2⟩
  iapply (Rounds.wp_send_pointsTo 𝒱 E Rd (c : Thread nD τ) none (c' := (c' : Thread nD τ)) (κ₁ := κ₁) (κ₂ := κ₂) (fs := fs) (fd := fd)
    hd₁ hd₂ ι ι' N hN hk₁ hk₂ 0 (zero_add _).symm (W := W) (p₁ fs hs) (p₂ fs fd hs))
  isplitl [HI1]; · iexact HI1
  isplitl [HI2]; · iexact HI2
  isplitl [H1]; · iexact H1
  isplitl [H2]; · iexact H2
  isplitl [HO]; · iexact HO
  isplitl [HT1]; · iexact HT1
  isplitl [HR1]; · iexact HR1
  isplitl [HT2] <;> iassumption

end Copy

end Cert.Owned

end
-- ==== Proof.KernelIdeal.Contents.lean ====
/- What the kernel's buffers hold, point by point, as functions of the launch memory: the running sum of
   exponentials and the running picked logit of each device (`sAcc`, `pAcc`), the eight-column buffer a device
   hands its partner (`packed`), and the column a device stores at its last point (`outAt`). All of it is read
   off the skeleton's payloads, for any float values. -/
module

public import proofs.«01_k».proof.Proof.Owned
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ)

/-- The point of the grid with number `n`. -/
def pt (n : ℕ) : Fin cfg0.N := ⟨n % 8, Nat.mod_lt _ (by decide)⟩

/-- A grid point is the point of its own number. -/
theorem pt_val (t : Fin cfg0.N) : pt t.val = t := Fin.ext (Nat.mod_eq_of_lt t.isLt)

/-- The device in the same row of the mesh, in the other column. -/
def peer (c : Dev nD) : Dev nD := ⟨(2 * (c.val / 2) + 1) - (c.val % 2), by have := c.isLt; simp only [nD] at *; omega⟩

/-- The partner's partner is the device itself. -/
theorem peer_peer (c : Dev nD) : peer (peer c) = c := by revert c; decide

/-- The blocks of the three inputs at a point, at their own shapes. -/
def xBlk (c : Dev nD) (t : Fin cfg0.N) : Vec F S512x1024 .f32 := iblk m c 0 t
/-- The block of the weights at a point. -/
def wBlk (c : Dev nD) (t : Fin cfg0.N) : Vec F S1024x1024 .f32 := iblk m c 1 t
/-- The block of the labels at a point: all of them. -/
def lBlk (c : Dev nD) (t : Fin cfg0.N) : Vec F S512x1 .i32 := iblk m c 2 t

/-- The activations as the first point narrows and keeps them. -/
def xb (c : Dev nD) : Vec F S512x1024 .bf16 := k0_pay6 (xBlk m c (pt 0))

/-- The running sum of exponentials after `n` points. -/
def sAcc (c : Dev nD) : ℕ → Vec F S512x1 .f32
  | 0 => k0_pay7
  | n + 1 => k0_pay10 (xb m c) (wBlk m c (pt n)) (sAcc c n)

/-- The running picked logit after `n` points. -/
def pAcc (c : Dev nD) : ℕ → Vec F S512x1 .f32
  | 0 => k0_pay8
  | n + 1 => k0_pay1 (k0_pay9 (xb m c) (wBlk m c (pt n))) (k0_pay11 c (lBlk m c (pt n))) (k0_pay12 (grid0.coords (pt n))) (pAcc c n)

/-- The three column ranges of the exchanged buffer. -/
abbrev col0 : Rect S512x8 := Rect.unit (s := S512x8) ![0, 0] S512x1.size inb_S512x8_S512x1_0_0
/-- The second column of the packet. -/
abbrev col1 : Rect S512x8 := Rect.unit (s := S512x8) ![0, 1] S512x1.size inb_S512x8_S512x1_0_1
/-- The packet's other columns. -/
abbrev cols2 : Rect S512x8 := Rect.unit (s := S512x8) ![0, 2] S512x6.size inb_S512x8_S512x6_0_2

/-- The exchanged buffer after its three stores, over what it held before. -/
def packOver (X : S512x8.Idx → Elt F .f32) (s p : Vec F S512x1 .f32) : S512x8.Idx → Elt F .f32 :=
  cols2.overlay (col1.overlay (col0.overlay X (k0_pay3 s)) (k0_pay4 p)) k0_pay5

/-- The same over zeros. -/
def packed (s p : Vec F S512x1 .f32) : S512x8.Idx → Elt F .f32 := packOver (fun _ => Scalar.ofBits .f32 0x00000000#32) s p

/-- The three pieces cover the packet. -/
theorem mem_cols (y : S512x8.Idx) : y ∈ col0.set ∨ y ∈ col1.set ∨ y ∈ cols2.set := by
  have h0 : (y 0).val < 512 := (y 0).isLt
  have h1 : (y 1).val < 8 := (y 1).isLt
  rcases Nat.lt_trichotomy (y 1).val 1 with h | h | h
  · refine .inl (Rect.mem_set_unit.mpr fun a => ?_)
    fin_cases a
    · exact ⟨Nat.zero_le _, by simpa using h0⟩
    · exact ⟨Nat.zero_le _, by simpa using h⟩
  · refine .inr (.inl (Rect.mem_set_unit.mpr fun a => ?_))
    fin_cases a
    · exact ⟨Nat.zero_le _, by simpa using h0⟩
    · exact ⟨by show 1 ≤ (y 1).val; omega, by show (y 1).val < 1 + 1; omega⟩
  · refine .inr (.inr (Rect.mem_set_unit.mpr fun a => ?_))
    fin_cases a
    · exact ⟨Nat.zero_le _, by simpa using h0⟩
    · exact ⟨by show 2 ≤ (y 1).val; omega, by show (y 1).val < 2 + 6; omega⟩

/-- The three stores cover the buffer: nothing of what it held remains. -/
theorem packOver_eq (X : S512x8.Idx → Elt F .f32) (s p : Vec F S512x1 .f32) : packOver X s p = packed s p := by
  funext y
  refine Owned.overlay_congr _ _ fun h2 => Owned.overlay_congr _ _ fun h1 => Owned.overlay_congr _ _ fun h0 => ?_
  rcases mem_cols y with h | h | h
  · exact absurd h h0
  · exact absurd h h1
  · exact absurd h h2

/-- The first two columns are not among the others. -/
theorem not_cols2_of {y : S512x8.Idx} (h : (y 1).val < 2) : y ∉ cols2.set := fun hm => by
  have : 2 ≤ (y 1).val := (Rect.mem_set_unit.mp hm 1).1
  omega

/-- The first column of the exchanged buffer is the sum handed over. -/
theorem ld_packed_col0 (s p : Vec F S512x1 .f32) : View.ld (packed s p) col0 = k0_pay3 s := by
  funext x
  have hx : (x 1).val < 1 := (x 1).isLt
  have h1 : ((col0.emb x) 1).val = (x 1).val := by show 0 + 1 * (x 1).val = _; omega
  show packed s p (col0.emb x) = _
  unfold packed packOver
  rw [Rect.overlay_of_not_mem _ _ _ (not_cols2_of (by omega)),
    Rect.overlay_of_not_mem _ _ _ (fun hm => by have : 1 ≤ ((col0.emb x) 1).val := (Rect.mem_set_unit.mp hm 1).1; omega), Rect.overlay_emb]

/-- The second column of the exchanged buffer is the picked logit handed over. -/
theorem ld_packed_col1 (s p : Vec F S512x1 .f32) : View.ld (packed s p) col1 = k0_pay4 p := by
  funext x
  have hx : (x 1).val < 1 := (x 1).isLt
  have h1 : ((col1.emb x) 1).val = 1 + (x 1).val := by show 1 + 1 * (x 1).val = _; omega
  show packed s p (col1.emb x) = _
  unfold packed packOver
  rw [Rect.overlay_of_not_mem _ _ _ (not_cols2_of (by omega)), Rect.overlay_emb]

/-- What device `c` packs for its partner. -/
def sent (c : Dev nD) : S512x8.Idx → Elt F .f32 := packed (sAcc m c 8) (pAcc m c 8)

/-- What device `c` stores at its last point: the logarithm of both halves' sums less both halves' picked logits. -/
def outAt (c : Dev nD) : Vec F S512x1 .f32 :=
  k0_pay2 (sAcc m c 8) (pAcc m c 8) (k0_pay3 (sAcc m (peer c) 8)) (k0_pay4 (pAcc m (peer c) 8))

end Cert.KernelIdeal.Hand

end
-- ==== Proof.KernelIdeal.Protocol.lean ====
/- The exchange between the two devices of a row, as a schedule of rounds.

   Each device, at its last grid point, and its partner (`peer`), which does the same:
   · it signals its partner's barrier semaphore by one. With that unit it hands over its landing buffer, at any
     contents, and the fact that its own receive semaphore is at round 0;
   · it waits for one unit of its own barrier semaphore, so it holds the partner's landing buffer;
   · it packs its two columns and copies the packed buffer into the partner's landing buffer. The copy pays its own
     send semaphore (handing back the packed buffer, contents `sent c`) and the partner's receive semaphore (handing
     over the partner's landing buffer, contents `sent c`);
   · it waits for its send semaphore, then for its receive semaphore: its landing buffer then holds
     `sent (peer c)`.
   So each of the three semaphores of a device has one round of one duty. -/
module

public import proofs.«01_k».proof.Proof.KernelIdeal.Contents
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state -/

/-- Two copies of the rounds' resource: the pipeline's own, and the exchange's. -/
abbrev UU : Type := UR sig nD τ × UR sig nD τ

local notation "𝕄" => MT nD τ sig Unit (Elt F) ℕ UU ℕ

/-- Where the pipeline's part of the bookkeeping lives. -/
abbrev EP : Emb (UR sig nD τ) (MT nD τ sig Unit (Elt F) ℕ UU ℕ) := embL
/-- Where the exchange's part lives. -/
abbrev ER : Emb (UR sig nD τ) (MT nD τ sig Unit (Elt F) ℕ UU ℕ) := embR

variable (m : (ℓ : Loc nD τ sig) → Buf (Elt F) ℓ) (ρ : Dev nD → PrngReg)

/-! ## Devices, buffers, semaphores -/

/-- The device either side's signal and copy name is the partner. -/
theorem dev1_eq (i : grid0.Coords) (c : Dev nD) (h : k0_cond2 i = 1#1) : (⟨k0_dev1 c, k0_dev1_lt i c h⟩ : Dev nD) = peer c :=
  Fin.ext (k0_dev1_eq c)
/-- The copy's target is the partner. -/
theorem dev2_eq (i : grid0.Coords) (c : Dev nD) (h : k0_cond2 i = 1#1) : (⟨k0_dev2 c, k0_dev2_lt i c h⟩ : Dev nD) = peer c :=
  Fin.ext (k0_dev2_eq c)

/-- The swap of the two devices of each row. -/
def swap : Dev nD ≃ Dev nD := ⟨peer, peer, peer_peer, peer_peer⟩

/-- The activations' copy. -/
abbrev xbM : Memref sig .tc .vmem S512x1024 .bf16 := Memref.whole cc0_scratch0
/-- The running sum. -/
abbrev sM : Memref sig .tc .vmem S512x1 .f32 := Memref.whole cc0_scratch1
/-- The running picked logit. -/
abbrev pM : Memref sig .tc .vmem S512x1 .f32 := Memref.whole cc0_scratch2
/-- The packet that is sent. -/
abbrev sendM : Memref sig .tc .vmem S512x8 .f32 := Memref.whole cc0_scratch3
/-- Where the partner's packet lands. -/
abbrev landM : Memref sig .tc .vmem S512x8 .f32 := Memref.whole cc0_scratch4

/-- The barrier's semaphore. -/
abbrev barS : Sem sig := (SemArray.scalar (sig.barrier 0 rfl) : Sems sig S_).sem
/-- The semaphore that counts the packet gone. -/
abbrev sendS : DmaSem sig := (cc0_scratch5 : DmaSems sig S_).sem
/-- The semaphore that counts the packet landed. -/
abbrev recvS : DmaSem sig := (cc0_scratch6 : DmaSems sig S_).sem

/-- A device's barrier cell. -/
abbrev barCell (c : Dev nD) : GSem nD τ sig := ((c : Thread nD τ), .reg barS)
/-- A device's cell for its packet gone. -/
abbrev sendCell (c : Dev nD) : GSem nD τ sig := ((c : Thread nD τ), .dma sendS)
/-- A device's cell for its partner's packet landed. -/
abbrev recvCell (c : Dev nD) : GSem nD τ sig := ((c : Thread nD τ), .dma recvS)

/-- The two semaphores scoped to the launch, and the three of the exchange. -/
abbrev osem : Fin 2 → SemLoc sig := fun | 0 => .dma sendS | 1 => .dma recvS
/-- The three semaphores. -/
abbrev csem : Fin 3 → SemLoc sig := fun | 0 => .reg barS | 1 => .dma sendS | 2 => .dma recvS
/-- A device's cell of one of the three. -/
abbrev kcell (ck : Dev nD × Fin 3) : GSem nD τ sig := ((ck.1 : Thread nD τ), csem ck.2)

/-- The credit a copy of the packed buffer raises. -/
abbrev N : ℕ := (landM : Memref sig .tc .vmem S512x8 .f32).view.dmaCredit
/-- A packet's credit is not zero. -/
theorem N_pos : 0 < N := View.dmaCredit_pos _ (by decide)

/-! ## The schedule -/

/-- The landing buffer of device `c` at contents `X`, and its packed buffer. -/
def land (c : Dev nD) (X : S512x8.Idx → Elt F .f32) : sProp 𝕄 := owns (c : Thread nD τ) landM fullShare X
/-- The packet held with given contents. -/
def pack (c : Dev nD) (X : S512x8.Idx → Elt F .f32) : sProp 𝕄 := owns (c : Thread nD τ) sendM fullShare X

omit [FloatOps F] in
theorem land_eq (c : Dev nD) (X : S512x8.Idx → Elt F .f32) : (land c X : sProp 𝕄) = (((c : Thread nD τ).loc cc0_scratch4) ↦{fullShare} X) :=
  owns_whole (c : Thread nD τ) cc0_scratch4 fullShare X
omit [FloatOps F] in
theorem pack_eq (c : Dev nD) (X : S512x8.Idx → Elt F .f32) : (pack c X : sProp 𝕄) = (((c : Thread nD τ).loc cc0_scratch3) ↦{fullShare} X) :=
  owns_whole (c : Thread nD τ) cc0_scratch3 fullShare X

omit [FloatOps F] in
instance land_storable (c : Dev nD) (X) : BI.Storable (upEmb : UEmb _ 𝕄) (land (F := F) c X) := by rw [land_eq]; infer_instance
omit [FloatOps F] in
instance pack_storable (c : Dev nD) (X) : BI.Storable (upEmb : UEmb _ 𝕄) (pack (F := F) c X) := by rw [pack_eq]; infer_instance

/-- What the partner's signal hands `c`: the partner's landing buffer, and that its receive semaphore is at round 0. -/
def barPay (c : Dev nD) : sProp 𝕄 := iprop((∃ X, land (peer c) X) ∗ reached ER (recvCell (peer c)) 0)
/-- What the partner's copy hands `c`: its own landing buffer, filled with what the partner sent. -/
def recvPay (c : Dev nD) : sProp 𝕄 := land c (sent m (peer c))
/-- What `c`'s own copy hands back: its packed buffer. -/
def sendPay (c : Dev nD) : sProp 𝕄 := pack c (sent m c)

/-- A semaphore of the exchange. -/
abbrev IsEx (g : GSem nD τ sig) : Prop := g.1.2 = .tc ∧ (g.2 = .reg barS ∨ g.2 = .dma sendS ∨ g.2 = .dma recvS)

/-- One round with one duty on each semaphore of the exchange. -/
def exRd : Rounds.Schedule (GSem nD τ sig) Unit 𝕄 where
  duties g r := if r = 0 ∧ IsEx g then {()} else ∅
  unitless _ := False
  amount g _ _ := if g.2 = .reg barS then 1 else N
  payload g _ _ :=
    if g.2 = .reg barS then barPay g.1.1
    else if g.2 = .dma recvS then recvPay m g.1.1
    else if g.2 = .dma sendS then sendPay m g.1.1
    else iprop(emp)
  amount_pos g _ _ _ := by
    by_cases h : g.2 = .reg barS
    · rw [if_pos h]; exact Nat.one_pos
    · rw [if_neg h]; exact N_pos

/-- What the duties hand over may be kept in the cells. -/
instance exRd_payload_storable (g : GSem nD τ sig) (r : ℕ) (d : Unit) :
    BI.Storable (upEmb : UEmb _ 𝕄) ((exRd (F := F) m).payload g r d) := by
  show BI.Storable upEmb (if g.2 = .reg barS then barPay g.1.1 else if g.2 = .dma recvS then recvPay m g.1.1
    else if g.2 = .dma sendS then sendPay m g.1.1 else iprop(emp))
  unfold barPay recvPay sendPay
  (repeat' split) <;> infer_instance

section Sched
variable (c : Dev nD)

/-- The semaphores are different. -/
theorem send_ne_bar : (SemLoc.dma sendS : SemLoc sig) ≠ .reg barS := fun h => by cases h
/-- The semaphores are different. -/
theorem recv_ne_bar : (SemLoc.dma recvS : SemLoc sig) ≠ .reg barS := fun h => by cases h
/-- The semaphores are different. -/
theorem send_ne_recv : (SemLoc.dma sendS : SemLoc sig) ≠ .dma recvS := by decide

/-- Each cell has one duty in its first round. -/
theorem duties_ex (k : Fin 3) : (exRd (F := F) m).duties (kcell (c, k)) 0 = {()} := by
  dsimp only [exRd]
  refine if_pos ⟨rfl, rfl, ?_⟩
  fin_cases k
  · exact .inl rfl
  · exact .inr (.inl rfl)
  · exact .inr (.inr rfl)
/-- No cell has a duty in a later round. -/
theorem duties_later (g : GSem nD τ sig) : ∀ r, 1 ≤ r → (exRd (F := F) m).duties g r = ∅ :=
  fun r hr => by dsimp only [exRd]; exact if_neg fun h => by omega

/-- The barrier's duty is one unit. -/
theorem amount_bar : (exRd (F := F) m).amount (barCell c) 0 () = 1 := by dsimp only [exRd]; exact if_pos rfl
/-- The departure's duty is the packet's credit. -/
theorem amount_send : (exRd (F := F) m).amount (sendCell c) 0 () = N := by dsimp only [exRd]; exact if_neg send_ne_bar
/-- The landing's duty is the packet's credit. -/
theorem amount_recv : (exRd (F := F) m).amount (recvCell c) 0 () = N := by dsimp only [exRd]; exact if_neg recv_ne_bar

/-- The round of a semaphore of the exchange expects its one duty's amount. -/
theorem expect_ex (k : Fin 3) : (exRd (F := F) m).expect (kcell (c, k)) 0 = (exRd (F := F) m).amount (kcell (c, k)) 0 () := by
  unfold Schedule.expect Schedule.amountOf; rw [duties_ex, Finset.sum_singleton]

/-- What the barrier's signal hands over. -/
theorem payload_bar : (exRd (F := F) m).payload (barCell c) 0 () = barPay c := by dsimp only [exRd]; exact if_pos rfl
/-- What the packet's departure gives back. -/
theorem payload_send : (exRd (F := F) m).payload (sendCell c) 0 () = sendPay m c := by
  dsimp only [exRd]; rw [if_neg send_ne_bar, if_neg send_ne_recv, if_pos rfl]
/-- What the packet's landing hands over. -/
theorem payload_recv : (exRd (F := F) m).payload (recvCell c) 0 () = recvPay m c := by
  dsimp only [exRd]; rw [if_neg recv_ne_bar, if_pos rfl]

/-- What a wait on a semaphore of the exchange is handed: its one duty's payload. -/
theorem rest_ex (k : Fin 3) :
    bigSep ((exRd (F := F) m).duties (kcell (c, k)) 0 \ ∅) (fun d => (exRd (F := F) m).payload (kcell (c, k)) 0 d)
      = (exRd (F := F) m).payload (kcell (c, k)) 0 () := by
  rw [Finset.sdiff_empty, duties_ex, bigSep_singleton]

end Sched

/-! ## What each device owes, and the order of the semaphores -/

/-- A device owes its partner's receive semaphore a buffer's credit, and its partner's barrier semaphore one unit. -/
def O₀ (c : Dev nD) : CellTallies nD τ sig Unit := tallyAt (recvCell (peer c)) () N + tallyAt (barCell (peer c)) () 1

/-- The names under which a cell is owed: one on a TensorCore, none elsewhere. -/
def L (g : GSem nD τ sig) : Finset Unit := if g.1.2 = .tc then {()} else ∅
/-- A barrier semaphore lies below a receive semaphore, and above every other. -/
def lv (g : GSem nD τ sig) (_ : Unit) : ℕ := if g.2 = .reg barS then 1 else if g.2 = .dma recvS then 2 else 0

/-- Nothing is owed to a cell elsewhere. -/
theorem L_of_ne (g : GSem nD τ sig) (h : g.1.2 ≠ .tc) : L g = ∅ := if_neg h
/-- A TensorCore's cell is owed under the one name. -/
theorem mem_L (c : Dev nD) (sm : SemLoc sig) (u : Unit) : u ∈ L ((c : Thread nD τ), sm) := by
  unfold L; rw [if_pos rfl]; exact Finset.mem_singleton_self _

/-- The barrier's level. -/
theorem lv_bar (c : Dev nD) (u : Unit) : lv (barCell c) u = 1 := if_pos rfl
/-- The landing's level. -/
theorem lv_recv (c : Dev nD) (u : Unit) : lv (recvCell c) u = 2 := by unfold lv; rw [if_neg recv_ne_bar, if_pos rfl]

/-- A tally at one cell is positive at that cell only. -/
theorem eq_of_tallyAt_pos {g₀ g : GSem nD τ sig} {u : Unit} {n : ℕ} (h : 0 < (tallyAt g₀ () n : CellTallies nD τ sig Unit) g u) : g = g₀ := by
  rw [tallyAt_apply] at h
  by_contra hn
  rw [if_neg fun h' => hn h'.1] at h
  exact Nat.lt_irrefl 0 h

/-- A device owes its partner's landing and its partner's barrier alone. -/
theorem O₀_pos {c : Dev nD} {g : GSem nD τ sig} {u : Unit} (h : 0 < O₀ c g u) : g = recvCell (peer c) ∨ g = barCell (peer c) := by
  unfold O₀ at h
  rw [Pi.add_apply, Finsupp.add_apply] at h
  rcases Nat.eq_zero_or_pos ((tallyAt (recvCell (peer c)) () N : CellTallies nD τ sig Unit) g u) with h0 | h0
  · exact .inr (eq_of_tallyAt_pos (by rw [h0, Nat.zero_add] at h; exact h))
  · exact .inl (eq_of_tallyAt_pos h0)

/-- The pipeline's own waits are allowed while the exchange is still owed: its semaphores lie lowest. -/
theorem mayWait_stage (c : Dev nD) (q : DmaSem sig) (hq : SemLoc.dma q ≠ .dma recvS) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases O₀_pos hg with rfl | rfl <;> exact mem_L _ _ _)
      (fun p hp => by rw [Finset.mem_singleton.mp hp]; dsimp only [lv]; rw [if_neg (fun h => by cases h), if_neg hq])
      (fun g u hg => by
        rcases O₀_pos hg with rfl | rfl
        · rw [lv_recv]; decide
        · rw [lv_bar]; decide)
  · rw [MayWait_zero]; iintro -; iempintro

/-- At its barrier wait a device owes only a receive semaphore, which lies above. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp]; exact mem_L _ _ _)
    (fun g u hg => by rw [eq_of_tallyAt_pos hg]; exact mem_L _ _ _)
    (fun p hp => by rw [Finset.mem_singleton.mp hp]; exact (lv_bar c ()).le)
    (fun g u hg => by rw [eq_of_tallyAt_pos hg, lv_recv]; decide)

/-! ## What a device's body starts from -/

/-- The invariants a device opens, under the names `K`: its own three semaphores', and its partner's barrier and
    receive semaphores'. -/
def invs (K : Dev nD × Fin 3 → ℕ) (c : Dev nD) : sProp 𝕄 :=
  iprop(cellInv ER (exRd m) (K (c, 0)) (barCell c) ∗ cellInv ER (exRd m) (K (c, 1)) (sendCell c) ∗ cellInv ER (exRd m) (K (c, 2)) (recvCell c)
    ∗ cellInv ER (exRd m) (K (peer c, 0)) (barCell (peer c)) ∗ cellInv ER (exRd m) (K (peer c, 2)) (recvCell (peer c)))

/-- The invariants can be kept while they are used. -/
instance invs_persistent (K : Dev nD × Fin 3 → ℕ) (c : Dev nD) : BI.Persistent (invs m K c) := by unfold invs; infer_instance

/-- The duties a device pays: its partner's barrier's and receive semaphore's, and its own send semaphore's. -/
def payToks (c : Dev nD) : sProp 𝕄 :=
  iprop(dutyTok ER (barCell (peer c)) 0 () ∗ dutyTok ER (recvCell (peer c)) 0 () ∗ dutyTok ER (sendCell c) 0 ())

/-- The exchange's ghost state at a device: the invariants, its positions at round 0, the reached marks, the duties. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ payToks c)

/-- What the exchange needs, at some names: the ghost state, the credit of its barrier and receive semaphores, and the
    semaphores' order. -/
def start (c : Dev nD) : sProp 𝕄 :=
  iprop((∃ K, ghost m K c) ∗ cred (tallyAt (barCell c) () 1) ∗ cred (tallyAt (recvCell c) () N) ∗ levAts L lv)

end Cert.KernelIdeal.Hand

end
-- ==== Proof.KernelIdeal.Step.lean ====
/- The kernel function's first part, which every grid point runs: the first point narrows the activations and
   clears both running columns; then each point multiplies by its block of the weights and adds to the running
   sum of exponentials. -/
module

public import proofs.«01_k».proof.Proof.KernelIdeal.Protocol

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The kernel has no loop that needs a measure. -/
abbrev 𝒱₀ : Variants := Variants.none

/-- The corner of a block. -/
theorem hz : (![0, 0] : Fin 2 → Nat) = fun _ => 0 := funext fun a => by fin_cases a <;> rfl

/-- The test the kernel makes for its first point. -/
abbrev isFirst (i : grid0.Coords) : Prop :=
  Scalar.cmpi .ne (Scalar.extui (Scalar.cmpi .eq (BitVec.ofNat 32 (i 0).val) 0#32) : BitVec 32) 0#32 = 1#1

/-- A value that the first point resets. -/
def enter (i : grid0.Coords) {α : Type} (new old : α) : α := if isFirst i then new else old

variable (i : grid0.Coords) (c : Dev nD)
  (a1 : Memref sig .tc .vmem S512x1024 .f32) (h1 : a1.IsWhole) (a2 : Memref sig .tc .vmem S1024x1024 .f32) (h2 : a2.IsWhole)
  (a3 : Memref sig .tc .vmem S512x1 .i32) (h3 : a3.IsWhole) (a4 : Memref sig .tc .vmem S512x1 .f32) (h4 : a4.IsWhole)
  (a5 : Memref sig .tc .vmem S512x1024 .bf16) (h5 : a5.IsWhole) (a6 : Memref sig .tc .vmem S512x1 .f32) (h6 : a6.IsWhole)
  (a7 : Memref sig .tc .vmem S512x1 .f32) (h7 : a7.IsWhole) (a8 : Memref sig .tc .vmem S512x8 .f32) (h8 : a8.IsWhole)
  (a9 : Memref sig .tc .vmem S512x8 .f32) (h9 : a9.IsWhole) (a10 a11 : DmaSems sig S_)

/-- The first part, on buffers held outright: the values it returns and what it leaves, the kept activations and the
    two running columns being the reset ones at the first point. -/
theorem wp_part2 (X1 : Vec F S512x1024 .f32) (X2 : Vec F S1024x1024 .f32) (X3 : Vec F S512x1 .i32)
    (Y5 : Vec F S512x1024 .bf16) (Y6 Y7 : Vec F S512x1 .f32)
    (Kt : (Σ' (_ : BitVec 32) (_ : Dev nD) (_ : BitVec 32) (_ : BitVec 32) (_ : FVec F S512x1024 .f32) (_ : IVec S512x1 32) (_ : IVec S512x1024 32), Vec F S512x1 .f32) → sProp 𝕄) :
    iprop(owns (c : Thread nD τ) a1 fullShare X1 ∗ owns (c : Thread nD τ) a2 fullShare X2 ∗ owns (c : Thread nD τ) a3 fullShare X3
        ∗ owns (c : Thread nD τ) a5 fullShare Y5 ∗ owns (c : Thread nD τ) a6 fullShare Y6 ∗ owns (c : Thread nD τ) a7 fullShare Y7
        ∗ (∀ w2 : BitVec 32, ∀ w6 : BitVec 32,
            (owns (c : Thread nD τ) a1 fullShare X1 ∗ owns (c : Thread nD τ) a2 fullShare X2 ∗ owns (c : Thread nD τ) a3 fullShare X3
              ∗ owns (c : Thread nD τ) a5 fullShare (enter i (k0_pay6 X1) Y5)
              ∗ owns (c : Thread nD τ) a6 fullShare (k0_pay10 (enter i (k0_pay6 X1) Y5) X2 (enter i k0_pay7 Y6))
              ∗ owns (c : Thread nD τ) a7 fullShare (enter i k0_pay8 Y7))
            -∗ Kt ⟨BitVec.ofNat 32 (i 0).val, c, w2, w6, k0_pay9 (enter i (k0_pay6 X1) Y5) X2, k0_pay11 c X3, k0_pay12 i, enter i k0_pay8 Y7⟩))
      ⊢ wp frame (wpE (defs₀ (F := F)) 𝒱₀ (c : Thread nD τ) none) Set.univ
          (k0_part2 i a1 h1 a2 h2 a3 h3 a4 h4 a5 h5 a6 h6 a7 h7 a8 h8 a9 h9 a10 a11) Kt := by
  rw [k0_part2_eq_skeleton]; unfold k0_part2_skel enter
  simp only [Prog.lift, Prog.bind_op, Prog.bind_ret, Prog.pure_eq_ret, wp_deviceId]
  by_cases hf : isFirst i
  · rw [dif_pos hf]
    simp only [if_pos hf]
    iintro ⟨H1, H2, H3, H5, H6, H7, Hk⟩
    iapply (Owned.wp_load_whole (defs₀ (F := F)) 𝒱₀ c a1 hz X1) $$ H1; iintro H1
    iapply (Owned.wp_load_whole (defs₀ (F := F)) 𝒱₀ c a5 hz Y5) $$ H5; iintro H5
    iapply (Owned.wp_store_whole (defs₀ (F := F)) 𝒱₀ c a5 hz Y5 (k0_pay6 X1)) $$ H5; iintro H5
    iapply (Owned.wp_load_whole (defs₀ (F := F)) 𝒱₀ c a6 hz Y6) $$ H6; iintro H6
    iapply (Owned.wp_store_whole (defs₀ (F := F)) 𝒱₀ c a6 hz Y6 k0_pay7) $$ H6; iintro H6
    iapply (Owned.wp_load_whole (defs₀ (F := F)) 𝒱₀ c a7 hz Y7) $$ H7; iintro H7
    iapply (Owned.wp_store_whole (defs₀ (F := F)) 𝒱₀ c a7 hz Y7 k0_pay8) $$ H7; iintro H7
    iapply (Owned.wp_load_whole (defs₀ (F := F)) 𝒱₀ c a5 hz _) $$ H5; iintro H5
    iapply (Owned.wp_load_whole (defs₀ (F := F)) 𝒱₀ c a2 hz _) $$ H2; iintro H2
    iapply (Owned.wp_load_whole (defs₀ (F := F)) 𝒱₀ c a6 hz _) $$ H6; iintro H6
    iapply (Owned.wp_load_whole (defs₀ (F := F)) 𝒱₀ c a6 hz _) $$ H6; iintro H6
    iapply (Owned.wp_store_whole (defs₀ (F := F)) 𝒱₀ c a6 hz _ _) $$ H6; iintro H6
    iapply (Owned.wp_load_whole (defs₀ (F := F)) 𝒱₀ c a3 hz _) $$ H3; iintro H3
    iapply (Owned.wp_load_whole (defs₀ (F := F)) 𝒱₀ c a7 hz _) $$ H7; iintro H7
    rw [wp_ret]; imodintro
    iapply Hk $$ [H1 H2 H3 H5 H6 H7]
    isplitl [H1]; · iexact H1
    isplitl [H2]; · iexact H2
    isplitl [H3]; · iexact H3
    isplitl [H5]; · iexact H5
    isplitl [H6] <;> iassumption
  · rw [dif_neg hf]
    simp only [if_neg hf]
    iintro ⟨H1, H2, H3, H5, H6, H7, Hk⟩
    iapply (Owned.wp_load_whole (defs₀ (F := F)) 𝒱₀ c a5 hz _) $$ H5; iintro H5
    iapply (Owned.wp_load_whole (defs₀ (F := F)) 𝒱₀ c a2 hz _) $$ H2; iintro H2
    iapply (Owned.wp_load_whole (defs₀ (F := F)) 𝒱₀ c a6 hz _) $$ H6; iintro H6
    iapply (Owned.wp_load_whole (defs₀ (F := F)) 𝒱₀ c a6 hz _) $$ H6; iintro H6
    iapply (Owned.wp_store_whole (defs₀ (F := F)) 𝒱₀ c a6 hz _ _) $$ H6; iintro H6
    iapply (Owned.wp_load_whole (defs₀ (F := F)) 𝒱₀ c a3 hz _) $$ H3; iintro H3
    iapply (Owned.wp_load_whole (defs₀ (F := F)) 𝒱₀ c a7 hz _) $$ H7; iintro H7
    rw [wp_ret]; imodintro
    iapply Hk $$ [H1 H2 H3 H5 H6 H7]
    isplitl [H1]; · iexact H1
    isplitl [H2]; · iexact H2
    isplitl [H3]; · iexact H3
    isplitl [H5]; · iexact H5
    isplitl [H6] <;> iassumption

end Cert.KernelIdeal.Hand

end
-- ==== Proof.KernelIdeal.Exchange.lean ====
/- The kernel function's exchange, which the last grid point runs: the handshake on the barrier semaphore, the
   packed buffer copied into the partner's landing buffer, both semaphores of the copy waited for and closed. -/
module

public import proofs.«01_k».proof.Proof.KernelIdeal.Step

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The copy of `c`'s packed buffer to its partner: it pays the duty of `c`'s send semaphore with the packed buffer and
    the duty of the partner's receive semaphore with the partner's landing buffer, filled. -/
theorem wp_copy (K : Dev nD × Fin 3 → ℕ) (c n : Dev nD) (hn : n = peer c)
    {hsc : (landM : Memref sig (Dev.tc n : Thread nD τ).2.kind .vmem S512x8 .f32).view.ref.isScScratch = false}
    {hsrc : (sendM : Memref sig .tc .vmem S512x8 .f32).view.WordExact} {hdst : (landM : Memref sig .tc .vmem S512x8 .f32).view.WordExact}
    {hsem : DmaTarget.Typed .vmem (.dma recvS) (.remote (Dev.tc n : Thread nD τ) (landM : Memref sig .tc .vmem S512x8 .f32) (.dma sendS) hsc)}
    {α : Type} {Q : α → sProp 𝕄} {k : PUnit → Prog (TpuEff nD τ sig (Elt F) Λ₀ .tc) α}
    (Y : S512x8.Idx → Elt F .f32) (W : Waits sig Unit) :
    iprop(cellInv ER (exRd m) (K (c, 1)) (sendCell c) ∗ cellInv ER (exRd m) (K (peer c, 2)) (recvCell (peer c))
        ∗ pack c (sent m c) ∗ land (peer c) Y
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendM (.remote (Dev.tc n : Thread nD τ) landM (.dma sendS) hsc) (.dma recvS) hsrc hdst hsem) k) Q) := by
  subst hn
  exact Owned.wp_copy (defs₀ (F := F)) 𝒱₀ ER (exRd m) c (peer c) sendM landM (κ₁ := K (c, 1)) (κ₂ := K (peer c, 2)) (sent m c) Y
    (r₁ := 0) (r₂ := 0) (d₁ := ()) (d₂ := ())
    (by rw [duties_ex m c 1]; exact Finset.mem_singleton_self _) (by rw [duties_ex m (peer c) 2]; exact Finset.mem_singleton_self _)
    () () N rfl (amount_send m c) (amount_recv m (peer c)) (W := W)
    (by rw [payload_send]; exact Entails.refl _) (by rw [payload_recv]; unfold recvPay; rw [peer_peer]; exact Entails.refl _)

variable (i : grid0.Coords) (c : Dev nD)
  (a1 : Memref sig .tc .vmem S512x1024 .f32) (h1 : a1.IsWhole) (a2 : Memref sig .tc .vmem S1024x1024 .f32) (h2 : a2.IsWhole)
  (a3 : Memref sig .tc .vmem S512x1 .i32) (h3 : a3.IsWhole) (a4 : Memref sig .tc .vmem S512x1 .f32) (h4 : a4.IsWhole)
  (a5 : Memref sig .tc .vmem S512x1024 .bf16) (h5 : a5.IsWhole) (a6 : Memref sig .tc .vmem S512x1 .f32) (h6 : a6.IsWhole)
  (a7 : Memref sig .tc .vmem S512x1 .f32) (h7 : a7.IsWhole)

/-- What the exchange leaves besides the running columns: nothing owed, both its buffers at known contents, its three
    semaphores closed at zero. -/
def exchanged (c : Dev nD) : sProp 𝕄 :=
  iprop((∃ W, owes (c : Thread nD τ) 0 W) ∗ pack c (sent m c) ∗ land c (sent m (peer c))
    ∗ semVal (sendCell c) 0 ∗ semVal (recvCell c) 0 ∗ semVal (barCell c) 0)

set_option maxHeartbeats 800000 in
/-- The exchange, one rule per effect in program order. -/
theorem wp_part1 (w2 w6 : BitVec 32) (hl : k0_cond2 i = 1#1) (K : Dev nD × Fin 3 → ℕ) (W : Waits sig Unit) (X8 X9 : S512x8.Idx → Elt F .f32)
    (Kt : (Σ' (_ : Vec F S512x1 .f32) (_ : Vec F S512x1 .f32), Vec F S512x1 .f32) → sProp 𝕄) :
    iprop((ghost m K c ∗ cred (tallyAt (barCell c) () 1) ∗ cred (tallyAt (recvCell c) () N) ∗ levAts L lv)
        ∗ owes (c : Thread nD τ) (O₀ c) W
        ∗ owns (c : Thread nD τ) a6 fullShare (sAcc m c 8) ∗ owns (c : Thread nD τ) a7 fullShare (pAcc m c 8)
        ∗ pack c X8 ∗ land c X9
        ∗ ((exchanged m c ∗ owns (c : Thread nD τ) a6 fullShare (sAcc m c 8) ∗ owns (c : Thread nD τ) a7 fullShare (pAcc m c 8))
            -∗ Kt ⟨sAcc m c 8, pAcc m c 8, k0_pay3 (sAcc m (peer c) 8)⟩))
      ⊢ wp frame (wpE (defs₀ (F := F)) 𝒱₀ (c : Thread nD τ) none) Set.univ
          (k0_part1 i a1 h1 a2 h2 a3 h3 a4 h4 a5 h5 a6 h6 a7 h7 sendM (Memref.isWhole_whole _) landM (Memref.isWhole_whole _) cc0_scratch5 cc0_scratch6 c w2 w6 hl) Kt := by
  rw [k0_part1_eq_skeleton]; unfold k0_part1_skel
  simp only [semSignalWord, semWaitWord, Prog.lift, Prog.bind_op, Prog.bind_ret, Prog.pure_eq_ret, dev1_eq i c hl]
  unfold ghost invs payToks
  iintro ⟨⟨⟨⟨#HIbar, #HIsnd, #HIrcv, #HIbarP, #HIrcvP⟩, HatB, HatS, HatV, #HrBP, #HrVP, #HrS, #HrV, HtBP, HtVP, HtS⟩, HcB, HcV, #Hlev⟩,
    HO, H6, H7, H8, H9, Hk⟩
  -- the signal to the partner's barrier, with `c`'s landing buffer and the fact that its receive semaphore is at round 0
  unfold O₀
  iapply (Rounds.wp_signal 𝒱₀ ER (exRd m) (c : Thread nD τ) none (dst := (peer c : Thread nD τ)) (κ := K (peer c, 0))
      (d := ()) (by rw [duties_ex m (peer c) 0]; exact Finset.mem_singleton_self _) ((amount_bar m (peer c)).trans (by decide)) ()
      (tallyAt (recvCell (peer c)) () N) rfl) $$ [HO HtBP H9]
  · isplitr; · iexact HIbarP
    isplitl [HO]; · iexact HO
    isplitl [HtBP]; · iexact HtBP
    isplitl [H9]
    · rw [payload_bar]; unfold barPay; rw [peer_peer]
      isplitl [H9]; · iexists X9; iexact H9
      iexact HrV
    · iexact HrBP
  iintro HO
  -- the wait on its own barrier: the partner's landing buffer
  iapply (Rounds.wp_wait_rest_token 𝒱₀ ER (exRd m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_ex m c 0, amount_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_ex m c 0).trans (payload_bar m c))) $$ Hpay
  unfold barPay
  icases Hp with ⟨⟨%Y, HY⟩, #HrVP'⟩
  -- the two running columns read, and packed with six columns of zeros
  iapply (Owned.wp_load_whole (defs₀ (F := F)) 𝒱₀ c a6 hz _) $$ H6; iintro H6
  iapply (Owned.wp_load_whole (defs₀ (F := F)) 𝒱₀ c a7 hz _) $$ H7; iintro H7
  unfold pack
  iapply (Owned.wp_load (defs₀ (F := F)) 𝒱₀ c sendM col0 _) $$ H8; iintro H8
  iapply (Owned.wp_store (defs₀ (F := F)) 𝒱₀ c sendM col0 _ _) $$ H8; iintro H8
  iapply (Owned.wp_load (defs₀ (F := F)) 𝒱₀ c sendM col1 _) $$ H8; iintro H8
  iapply (Owned.wp_store (defs₀ (F := F)) 𝒱₀ c sendM col1 _ _) $$ H8; iintro H8
  iapply (Owned.wp_load (defs₀ (F := F)) 𝒱₀ c sendM cols2 _) $$ H8; iintro H8
  iapply (Owned.wp_store (defs₀ (F := F)) 𝒱₀ c sendM cols2 _ _) $$ H8; iintro H8
  ihave H8 := (show owns (c : Thread nD τ) sendM fullShare
      (cols2.overlay (col1.overlay (col0.overlay X8 (k0_pay3 (sAcc m c 8))) (k0_pay4 (pAcc m c 8))) k0_pay5) ⊢ (pack c (sent m c) : sProp 𝕄)
      from Entails.of_eq (congrArg (fun X => (pack c X : sProp 𝕄)) (packOver_eq X8 (sAcc m c 8) (pAcc m c 8)))) $$ H8
  -- the copy
  iapply (wp_copy m K c _ (dev2_eq i c hl) Y (insert (SemLoc.reg barS, ()) W)) $$ [H8 HY HO HtS HtVP]
  · isplitr; · iexact HIsnd
    isplitr; · iexact HIrcvP
    isplitl [H8]; · iexact H8
    isplitl [HY]; · iexact HY
    isplitl [HO]; · iexact HO
    isplitl [HtS]; · iexact HtS
    isplitr; · iexact HrS
    isplitl [HtVP]; · iexact HtVP
    iexact HrVP
  iintro ⟨HcS, HO⟩
  -- the wait on its send semaphore: the packed buffer back
  iapply (Rounds.wp_wait_rest_token 𝒱₀ ER (exRd m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_ex m c 1, amount_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave H8 := (Entails.of_eq ((rest_ex m c 1).trans (payload_send m c))) $$ Hpay
  -- the wait on its receive semaphore: its landing buffer, filled by the partner
  iapply (Rounds.wp_wait_rest_token 𝒱₀ ER (exRd m) (c : Thread nD τ) none (κ := K (c, 2))
      (wpE_waitDma2_eq 𝒱₀ (c : Thread nD τ) none Set.univ) (Set.mem_univ _) () (O := 0)
      (W := insert (SemLoc.dma sendS, ()) (insert (SemLoc.reg barS, ()) W)) (R := 0) (m := 0) (T := ∅)
      (by rw [Nat.zero_add, expect_ex m c 2, amount_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave H9 := (Entails.of_eq ((rest_ex m c 2).trans (payload_recv m c))) $$ Hpay
  -- its three semaphores close
  imod (Rounds.cell_close ER (exRd m) (Set.mem_univ (K (c, 1))) (fun h => h) (R := 0 + 1) (duties_later m (sendCell c))) $$ [HatS] with HzS
  · isplitr; · iexact HIsnd
    iexact HatS
  imod (Rounds.cell_close ER (exRd m) (Set.mem_univ (K (c, 2))) (fun h => h) (R := 0 + 1) (duties_later m (recvCell c))) $$ [HatV] with HzV
  · isplitr; · iexact HIrcv
    iexact HatV
  imod (Rounds.cell_close ER (exRd m) (Set.mem_univ (K (c, 0))) (fun h => h) (R := 0 + 1) (duties_later m (barCell c))) $$ [HatB] with HzB
  · isplitr; · iexact HIbar
    iexact HatB
  -- the partner's sum read
  unfold recvPay land sendPay
  iapply (Owned.wp_load (defs₀ (F := F)) 𝒱₀ c landM col0 _) $$ H9; iintro H9
  rw [show View.ld (sent m (peer c)) col0 = k0_pay3 (sAcc m (peer c) 8) from ld_packed_col0 _ _, wp_ret]
  imodintro
  iapply Hk
  unfold exchanged land
  isplitl [HO H8 H9 HzS HzV HzB]
  · isplitl [HO]; · iexists _; iexact HO
    isplitl [H8]; · iexact H8
    isplitl [H9]; · iexact H9
    isplitl [HzS]; · iexact HzS
    isplitl [HzV] <;> iassumption
  isplitl [H6] <;> iassumption

end Cert.KernelIdeal.Hand

end
-- ==== Proof.KernelIdeal.Body.lean ====
/- The kernel function at each grid point, and the pipeline's proof data.

   Before point `n` a device holds its kept activations and its two running columns at `xb`, `sAcc n`, `pAcc n`
   (before point 0 at any contents), both buffers of the exchange at any contents, and what the exchange needs. After
   point 7 the exchange has happened and its semaphores are closed. -/
module

public import proofs.«01_k».proof.Proof.KernelIdeal.Exchange

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The points -/

/-- The first branch is taken at point 0 alone. -/
theorem isFirst_iff (t : Fin cfg0.N) : isFirst (grid0.coords t) ↔ t.val = 0 := by
  rcases fin_N0 t with rfl | rfl | rfl | rfl | rfl | rfl | rfl | rfl <;> decide

/-- The last branch is taken at point 7 alone. -/
theorem isLast_iff (t : Fin cfg0.N) : k0_cond2 (grid0.coords t) = 1#1 ↔ t.val = 7 := by
  rcases fin_N0 t with rfl | rfl | rfl | rfl | rfl | rfl | rfl | rfl <;> decide

/-- The kept activations and the running columns before point `n`. -/
def running (c : Dev nD) (n : ℕ) : sProp 𝕄 :=
  iprop(∃ Y5 : Vec F S512x1024 .bf16, ∃ Y6 : Vec F S512x1 .f32, ∃ Y7 : Vec F S512x1 .f32,
    ⌜n ≠ 0 → Y5 = xb m c ∧ Y6 = sAcc m c n ∧ Y7 = pAcc m c n⌝
    ∗ owns (c : Thread nD τ) xbM fullShare Y5 ∗ owns (c : Thread nD τ) sM fullShare Y6 ∗ owns (c : Thread nD τ) pM fullShare Y7)

/-- What the first part reads at point `t`, whether it has just reset it or not. -/
theorem entered (c : Dev nD) (t : Fin cfg0.N) {Y5 : Vec F S512x1024 .bf16} {Y6 Y7 : Vec F S512x1 .f32}
    (h : t.val ≠ 0 → Y5 = xb m c ∧ Y6 = sAcc m c t.val ∧ Y7 = pAcc m c t.val) :
    enter (grid0.coords t) (k0_pay6 (xBlk m c t)) Y5 = xb m c ∧ enter (grid0.coords t) k0_pay7 Y6 = sAcc m c t.val
      ∧ enter (grid0.coords t) k0_pay8 Y7 = pAcc m c t.val := by
  unfold enter
  by_cases h0 : t.val = 0
  · have ht : t = pt 0 := by rw [← pt_val t, h0]
    simp only [if_pos ((isFirst_iff t).mpr h0)]
    refine ⟨?_, ?_, ?_⟩
    · rw [ht]; rfl
    · rw [h0]; rfl
    · rw [h0]; rfl
  · simp only [if_neg (fun hf => h0 ((isFirst_iff t).mp hf))]
    exact h h0

/-- The running sum after a point, from the one before it. -/
theorem sAcc_succ (c : Dev nD) (t : Fin cfg0.N) : sAcc m c (t.val + 1) = k0_pay10 (xb m c) (wBlk m c t) (sAcc m c t.val) := by
  rw [sAcc, pt_val]
/-- The running picked logit after a point, from the one before it. -/
theorem pAcc_succ (c : Dev nD) (t : Fin cfg0.N) :
    pAcc m c (t.val + 1) = k0_pay1 (k0_pay9 (xb m c) (wBlk m c t)) (k0_pay11 c (lBlk m c t)) (k0_pay12 (grid0.coords t)) (pAcc m c t.val) := by
  rw [pAcc, pt_val]

/-! ## The body -/

section Body

variable (c : Dev nD) (t : Fin cfg0.N)
  (a1 : Memref sig .tc .vmem S512x1024 .f32) (h1 : a1.IsWhole) (a2 : Memref sig .tc .vmem S1024x1024 .f32) (h2 : a2.IsWhole)
  (a3 : Memref sig .tc .vmem S512x1 .i32) (h3 : a3.IsWhole) (a4 : Memref sig .tc .vmem S512x1 .f32) (h4 : a4.IsWhole)

/-- The three input blocks held at point `t`. -/
def inputs : sProp 𝕄 :=
  iprop(owns (c : Thread nD τ) a1 fullShare (xBlk m c t) ∗ owns (c : Thread nD τ) a2 fullShare (wBlk m c t) ∗ owns (c : Thread nD τ) a3 fullShare (lBlk m c t))

/-- A point that is not the last: the running columns advance. -/
theorem wp_body_inner (ht : t.val ≠ 7) (Kt : PUnit → sProp 𝕄) :
    iprop(inputs m c t a1 a2 a3 ∗ running m c t.val ∗ ((inputs m c t a1 a2 a3 ∗ running m c (t.val + 1)) -∗ Kt ⟨⟩))
      ⊢ wp frame (wpE (defs₀ (F := F)) 𝒱₀ (c : Thread nD τ) none) Set.univ
          (cc0_body (grid0.coords t) a1 h1 a2 h2 a3 h3 a4 h4 xbM (Memref.isWhole_whole _) sM (Memref.isWhole_whole _) pM (Memref.isWhole_whole _)
            sendM (Memref.isWhole_whole _) landM (Memref.isWhole_whole _) cc0_scratch5 cc0_scratch6) Kt := by
  rw [cc0_body_eq_skeleton]; unfold cc0_body_skel
  simp only [dif_neg (fun h => ht ((isLast_iff t).mp h))]
  unfold running inputs
  iintro ⟨⟨H1, H2, H3⟩, ⟨%Y5, %Y6, %Y7, %hY, H5, H6, H7⟩, Hk⟩
  obtain ⟨e5, e6, e7⟩ := entered m c t hY
  rw [wp_bind]
  iapply (wp_part2 (grid0.coords t) c a1 h1 a2 h2 a3 h3 a4 h4 xbM (Memref.isWhole_whole _) sM (Memref.isWhole_whole _) pM (Memref.isWhole_whole _)
    sendM (Memref.isWhole_whole _) landM (Memref.isWhole_whole _) cc0_scratch5 cc0_scratch6 (xBlk m c t) (wBlk m c t) (lBlk m c t) Y5 Y6 Y7)
  rw [e5, e6, e7]
  isplitl [H1]; · iexact H1
  isplitl [H2]; · iexact H2
  isplitl [H3]; · iexact H3
  isplitl [H5]; · iexact H5
  isplitl [H6]; · iexact H6
  isplitl [H7]; · iexact H7
  iintro %w2 %w6 ⟨H1, H2, H3, H5, H6, H7⟩
  simp only [Prog.lift, Prog.bind_op, Prog.bind_ret, Prog.pure_eq_ret]
  iapply (Owned.wp_load_whole (defs₀ (F := F)) 𝒱₀ c pM hz _) $$ H7; iintro H7
  iapply (Owned.wp_store_whole (defs₀ (F := F)) 𝒱₀ c pM hz _ _) $$ H7; iintro H7
  rw [wp_ret]; imodintro
  rw [← pAcc_succ, ← sAcc_succ]
  iapply Hk
  isplitl [H1 H2 H3]
  · isplitl [H1]; · iexact H1
    isplitl [H2] <;> iassumption
  iexists (xb m c), (sAcc m c (t.val + 1)), (pAcc m c (t.val + 1))
  isplitr
  · ipureintro; exact fun _ => ⟨rfl, rfl, rfl⟩
  isplitl [H5]; · iexact H5
  isplitl [H6] <;> iassumption

/-- The last point: the running columns advance, the exchange happens, and the result column is stored. -/
theorem wp_body_last (ht : t.val = 7) (W : Waits sig Unit) (Kt : PUnit → sProp 𝕄) :
    iprop(inputs m c t a1 a2 a3 ∗ (∃ X, owns (c : Thread nD τ) a4 fullShare X) ∗ running m c t.val ∗ start m c
        ∗ owes (c : Thread nD τ) (O₀ c) W ∗ (∃ X, pack c X) ∗ (∃ X, land c X)
        ∗ ((inputs m c t a1 a2 a3 ∗ owns (c : Thread nD τ) a4 fullShare (outAt m c) ∗ running m c (t.val + 1) ∗ exchanged m c) -∗ Kt ⟨⟩))
      ⊢ wp frame (wpE (defs₀ (F := F)) 𝒱₀ (c : Thread nD τ) none) Set.univ
          (cc0_body (grid0.coords t) a1 h1 a2 h2 a3 h3 a4 h4 xbM (Memref.isWhole_whole _) sM (Memref.isWhole_whole _) pM (Memref.isWhole_whole _)
            sendM (Memref.isWhole_whole _) landM (Memref.isWhole_whole _) cc0_scratch5 cc0_scratch6) Kt := by
  have hl : k0_cond2 (grid0.coords t) = 1#1 := (isLast_iff t).mpr ht
  rw [cc0_body_eq_skeleton]; unfold cc0_body_skel
  simp only [dif_pos hl]
  unfold running inputs start
  iintro ⟨⟨H1, H2, H3⟩, ⟨%X4, H4⟩, ⟨%Y5, %Y6, %Y7, %hY, H5, H6, H7⟩, ⟨⟨%K, Hg⟩, Hcr⟩, HO, ⟨%X8, H8⟩, ⟨%X9, H9⟩, Hk⟩
  obtain ⟨e5, e6, e7⟩ := entered m c t hY
  rw [wp_bind]
  iapply (wp_part2 (grid0.coords t) c a1 h1 a2 h2 a3 h3 a4 h4 xbM (Memref.isWhole_whole _) sM (Memref.isWhole_whole _) pM (Memref.isWhole_whole _)
    sendM (Memref.isWhole_whole _) landM (Memref.isWhole_whole _) cc0_scratch5 cc0_scratch6 (xBlk m c t) (wBlk m c t) (lBlk m c t) Y5 Y6 Y7)
  rw [e5, e6, e7]
  isplitl [H1]; · iexact H1
  isplitl [H2]; · iexact H2
  isplitl [H3]; · iexact H3
  isplitl [H5]; · iexact H5
  isplitl [H6]; · iexact H6
  isplitl [H7]; · iexact H7
  iintro %w2 %w6 ⟨H1, H2, H3, H5, H6, H7⟩
  simp only [Prog.lift, Prog.bind_op, Prog.bind_ret, Prog.pure_eq_ret]
  iapply (Owned.wp_load_whole (defs₀ (F := F)) 𝒱₀ c pM hz _) $$ H7; iintro H7
  iapply (Owned.wp_store_whole (defs₀ (F := F)) 𝒱₀ c pM hz _ _) $$ H7; iintro H7
  rw [← pAcc_succ, ← sAcc_succ, ht]
  rw [wp_bind]
  iapply (wp_part1 m (grid0.coords t) c a1 h1 a2 h2 a3 h3 a4 h4 xbM (Memref.isWhole_whole _) sM (Memref.isWhole_whole _) pM (Memref.isWhole_whole _)
    w2 w6 hl K W X8 X9)
  isplitl [Hg Hcr]
  · isplitl [Hg] <;> iassumption
  isplitl [HO]; · iexact HO
  isplitl [H6]; · iexact H6
  isplitl [H7]; · iexact H7
  isplitl [H8]; · iexact H8
  isplitl [H9]; · iexact H9
  iintro ⟨Hex, H6, H7⟩
  unfold exchanged land
  icases Hex with ⟨HO, H8, H9, Hz⟩
  iapply (Owned.wp_load (defs₀ (F := F)) 𝒱₀ c landM col1 _) $$ H9; iintro H9
  rw [show View.ld (sent m (peer c)) col1 = k0_pay4 (pAcc m (peer c) 8) from ld_packed_col1 _ _]
  iapply (Owned.wp_load_whole (defs₀ (F := F)) 𝒱₀ c a4 hz _) $$ H4; iintro H4
  iapply (Owned.wp_store_whole (defs₀ (F := F)) 𝒱₀ c a4 hz _ _) $$ H4; iintro H4
  rw [wp_ret]; imodintro
  iapply Hk
  isplitl [H1 H2 H3]
  · isplitl [H1]; · iexact H1
    isplitl [H2] <;> iassumption
  isplitl [H4]; · iexact H4
  isplitl [H5 H6 H7]
  · iexists (xb m c), (sAcc m c (7 + 1)), (pAcc m c (7 + 1))
    isplitr
    · ipureintro; exact fun _ => ⟨rfl, rfl, rfl⟩
    isplitl [H5]; · iexact H5
    isplitl [H6] <;> iassumption
  isplitl [HO]; · iexact HO
  isplitl [H8]; · iexact H8
  isplitl [H9] <;> iassumption

end Body

end Cert.KernelIdeal.Hand

end
-- ==== Proof.KernelIdeal.Obligation.lean ====
/- The pipeline's proof data, and its body obligation.

   Between the points a device holds what the exchange needs, its kept activations and running columns, and the two
   buffers of the exchange; after the last point, the same buffers and its three semaphores at zero. It owes its
   partner a signal and a copy until the last point has run. -/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device holds between the points, before point `n`. -/
def ready (c : Dev nD) (n : ℕ) : sProp 𝕄 :=
  iprop(start m c ∗ running m c n ∗ (∃ X, pack c X) ∗ (∃ X, land c X))

/-- What a device holds when the grid has run. -/
def done (c : Dev nD) : sProp 𝕄 :=
  iprop(running m c 8 ∗ pack c (sent m c) ∗ land c (sent m (peer c)) ∗ semVal (sendCell c) 0 ∗ semVal (recvCell c) 0 ∗ semVal (barCell c) 0)

/-- The pipeline's proof data: each input block stays in place, the result's block ends at `outAt`. -/
def dats (_ : Fin 1) (c : Dev nD) : Dat τ (Elt F) Unit ℕ UU ℕ cfg0 c where
  A w := V m c (Pipeline.arrRef spec0 w)
  q _ := fullShare
  Φ k := if k.val = 8 then done m c else ready m c k.val
  after w t := match w with
    | 0 => iblk m c 0 t
    | 1 => iblk m c 1 t
    | 2 => iblk m c 2 t
    | 3 => outAt m c
  owed k := if k.val = 8 then 0 else O₀ c

/-- The state kept between points: after the last one the exchange is over. -/
theorem Φ_at (c : Dev nD) (k : Fin (cfg0.N + 1)) : (dats m 0 c).Φ k = if k.val = 8 then done m c else ready m c k.val := rfl
/-- What is owed between points: nothing after the last one. -/
theorem owed_at (c : Dev nD) (k : Fin (cfg0.N + 1)) : (dats m 0 c).owed k = if k.val = 8 then 0 else O₀ c := rfl

section Obligation

variable (c : Dev nD) (t : Fin cfg0.N)

/-- The activations' block as a point finds it. -/
theorem before_x (d) : (dats m 0 c).before 0 t d = xBlk m c t :=
  ((dats m 0 c).before_in_eq_fetched 0 rfl (fun _ => rfl) (fun _ _ _ => rfl) (fun _ => rfl) t d).trans rfl
/-- The weights' block as a point finds it. -/
theorem before_w (d) : (dats m 0 c).before 1 t d = wBlk m c t :=
  ((dats m 0 c).before_in_eq_fetched 1 rfl (fun _ => rfl) (fun _ _ _ => rfl) (fun _ => rfl) t d).trans rfl
/-- The labels' block as a point finds it. -/
theorem before_l (d) : (dats m 0 c).before 2 t d = lBlk m c t :=
  ((dats m 0 c).before_in_eq_fetched 2 rfl (fun _ => rfl) (fun _ _ _ => rfl) (fun _ => rfl) t d).trans rfl

/-- There are eight points. -/
theorem lt8 : t.val < 8 := t.isLt

/-- The state before a point. -/
theorem Φ_before : (dats m 0 c).Φ t.castSucc = ready m c t.val :=
  if_neg (by have := lt8 t; show ¬ t.val = 8; omega)
/-- What is owed before a point. -/
theorem owed_before : (dats m 0 c).owed t.castSucc = O₀ c :=
  if_neg (by have := lt8 t; show ¬ t.val = 8; omega)
/-- The state after a point that is not the last. -/
theorem Φ_inner (h : t.val ≠ 7) : (dats m 0 c).Φ t.succ = ready m c (t.val + 1) :=
  if_neg (by show ¬ t.val + 1 = 8; omega)
/-- What is owed after a point that is not the last. -/
theorem owed_inner (h : t.val ≠ 7) : (dats m 0 c).owed t.succ = O₀ c :=
  if_neg (by show ¬ t.val + 1 = 8; omega)
/-- The state after the last point. -/
theorem Φ_last (h : t.val = 7) : (dats m 0 c).Φ t.succ = done m c :=
  if_pos (by show t.val + 1 = 8; omega)
/-- Nothing is owed after the last point. -/
theorem owed_last (h : t.val = 7) : (dats m 0 c).owed t.succ = 0 :=
  if_pos (by show t.val + 1 = 8; omega)

/-- The result's window rests at every point but the last. -/
theorem idle_inner (h : t.val ≠ 7) : idle0 3 (grid0.coords t) = true := by
  show (!(k0_cond2 (grid0.coords t) == 1#1)) = true
  rw [Bool.not_eq_true', beq_eq_false_iff_ne]
  exact fun h' => h ((isLast_iff t).mp h')
/-- The result's window is in use at the last point. -/
theorem idle_last (h : t.val = 7) : idle0 3 (grid0.coords t) = false := by
  show (!(k0_cond2 (grid0.coords t) == 1#1)) = false
  rw [Bool.not_eq_false', beq_iff_eq]
  exact (isLast_iff t).mpr h
/-- The result is not written back before the last point. -/
theorem flush_inner (h : t.val ≠ 7) : (win0 3).flush t = false := by
  rw [← Bool.not_eq_true, show (win0 3).flush t = true ↔ t.val % 8 = 7 from flush0_3 t]; have := lt8 t; omega

end Obligation

/-- The body obligation at each point. -/
theorem body_obligation (c : Dev nD) : BodyObligation (dats (F := F) m 0 c) (defs₀ (F := F)) 𝒱₀ () Set.univ := fun t => by
  rw [bigSep_W0, bigSep_W0]
  simp only [before_x, before_w, before_l, Φ_before]
  by_cases ht : t.val = 7
  · rw [Φ_last m c t ht]
    simp only [idle_last t ht]
    unfold ready Dat.owesAt Pipeline.owesWithin
    rw [owed_before, owed_last m c t ht]
    iintro ⟨⟨Hst, Hr, Hp, Hl⟩, ⟨%W, -, HO⟩, ⟨%d1, H1⟩, ⟨%d2, H2⟩, ⟨%d3, H3⟩, ⟨%d4, H4⟩⟩
    iapply (wp_body_last m c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) ht W)
    unfold inputs done exchanged
    isplitl [H1 H2 H3]
    · isplitl [H1]; · iexact H1
      isplitl [H2] <;> iassumption
    isplitl [H4]; · iexists _; iexact H4
    isplitl [Hr]; · iexact Hr
    isplitl [Hst]; · iexact Hst
    isplitl [HO]; · iexact HO
    isplitl [Hp]; · iexact Hp
    isplitl [Hl]; · iexact Hl
    rw [show t.val + 1 = 8 by omega]
    iintro ⟨⟨H1, H2, H3⟩, H4, Hr, ⟨%W', HO⟩, Hex⟩
    isplitl [Hr Hex]
    · isplitl [Hr] <;> iassumption
    isplitl [HO]
    · iexists W'
      isplitr; · ipureintro; exact fun _ _ => Or.inl trivial
      iexact HO
    isplitl [H1]; · iexact H1
    isplitl [H2]; · iexact H2
    isplitl [H3]; · iexact H3
    iexact H4
  · rw [Φ_inner m c t ht]
    simp only [idle_inner t ht, flush_inner t ht]
    unfold ready Dat.owesAt Pipeline.owesWithin
    rw [owed_before, owed_inner m c t ht]
    iintro ⟨⟨Hst, Hr, Hp, Hl⟩, ⟨%W, -, HO⟩, ⟨%d1, H1⟩, ⟨%d2, H2⟩, ⟨%d3, H3⟩, H4⟩
    iapply (wp_body_inner m c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) ht)
    unfold inputs
    isplitl [H1 H2 H3]
    · isplitl [H1]; · iexact H1
      isplitl [H2] <;> iassumption
    isplitl [Hr]; · iexact Hr
    iintro ⟨⟨H1, H2, H3⟩, Hr⟩
    isplitl [Hst Hr Hp Hl]
    · isplitl [Hst]; · iexact Hst
      isplitl [Hr]; · iexact Hr
      isplitl [Hp] <;> iassumption
    isplitl [HO]
    · iexists W
      isplitr; · ipureintro; exact fun _ _ => Or.inl trivial
      iexact HO
    isplitl [H1]; · iexact H1
    isplitl [H2]; · iexact H2
    isplitl [H3]; · iexact H3
    iexact H4

end Cert.KernelIdeal.Hand

end
-- ==== Proof.KernelIdeal.Launch.lean ====
/- The launch: from the machine's initial memory to every device's final memory.

   The exchange's ghost state is made for all devices at once, each token dealt to the device that pays with it; then
   the launch theorem runs the four pipelines. Every final memory holds the arguments as they were, each device's
   result column `outAt`, and every semaphore at zero. -/
module

public import proofs.«01_k».proof.Proof.KernelIdeal.Obligation
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Ghost state -/

/-- The kernel's own semaphores are distinct. -/
theorem ownSemFacts : Pipeline.OwnSemFacts cfg0.spec osem := by decide

/-- Different devices and semaphores are different cells. -/
theorem kcell_injective : Function.Injective (kcell : Dev nD × Fin 3 → GSem nD τ sig) := by
  rintro ⟨c, k⟩ ⟨c', k'⟩ h
  obtain rfl : c = c' := congrArg (fun g : GSem nD τ sig => g.1.1) h
  have hk : csem k = csem k' := congrArg Prod.snd h
  obtain rfl : k = k' := by
    clear h; revert k k'; decide
  rfl

/-- The semaphores of the exchange. -/
def exCells : Finset (GSem nD τ sig) := Finset.univ.map ⟨kcell, kcell_injective⟩

/-- A semaphore's one duty, in its one round. -/
abbrev tokOf (ck : Dev nD × Fin 3) : GSem nD τ sig × ℕ × Unit := (kcell ck, 0, ())
/-- Different cells have different duties. -/
theorem tokOf_injective : Function.Injective (tokOf : Dev nD × Fin 3 → GSem nD τ sig × ℕ × Unit) :=
  fun _ _ h => kcell_injective (congrArg Prod.fst h)
/-- All the duties' names. -/
def exToks : Finset (GSem nD τ sig × ℕ × Unit) := Finset.univ.map ⟨tokOf, tokOf_injective⟩

/-- The ghost state the launch starts with: the pipeline's, and the exchange's. -/
def u₀ : UU :=
  (initOf (Pipeline.cells cfgs cellOf_inj) (Pipeline.launchToks cfgs cellOf_inj), initOf exCells exToks)

/-- Device `c`'s share of the exchange's ghost state, as made: each of its semaphores at round 0, with its duty. -/
def G (c : Dev nD) : sProp 𝕄 :=
  iprop((bigSep Finset.univ fun k : Fin 3 => roundState ER (exRd m) (kcell (c, k)) 0)
    ∗ (bigSep Finset.univ fun k : Fin 3 => iprop(atPos ER (kcell (c, k)) 0 ∅ 0 ∗ reached ER (kcell (c, k)) 0))
    ∗ bigSep Finset.univ fun k : Fin 3 => dutyTok ER (kcell (c, k)) 0 ())

/-- What device `c` holds of it once the invariants stand and the duties are dealt. -/
def G' (c : Dev nD) : sProp 𝕄 := iprop(∃ K, ghost m K c)

/-- A product over the three semaphores, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- The launch's element, split into the devices' shares. -/
theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄))
      = bigSep Finset.univ fun c : Dev nD => bigSep Finset.univ fun k : Fin 3 => dutyTok ER (kcell (c, k)) 0 () := by
    unfold exToks; rw [bigSep_map, bigSep_univ_prod]; rfl
  iintro HX
  imod (Rounds.fund ER (exRd m) exCells exToks) $$ HX with ⟨Hst, Hr, Hat, Htok⟩
  imodintro
  ihave Hst := (Entails.of_eq (hX fun g => roundState ER (exRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A device's own semaphores at zero: its two copy semaphores. -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- The semaphore outside the kernel's own at zero: the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's three invariants are set up from its three semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0))
          ∗ bigSep Finset.univ fun k : Fin 3 => dutyTok ER (kcell (c, k)) 0 ()) := by
  have hinv : iprop((bigSep Finset.univ fun k : Fin 3 => semVal (kcell (c, k)) 0) ∗ bigSep Finset.univ fun k : Fin 3 => roundState ER (exRd m) (kcell (c, k)) 0)
      ⊢ (|={Set.univ}=> bigSep Finset.univ fun k => iprop(∃ κ : ℕ, cellInv ER (exRd m) κ (kcell (c, k))) : sProp 𝕄) := by
    rw [← bigSep_sep']
    exact (bigSep_mono fun k _ => (Rounds.body_intro ER (exRd m) (kcell (c, k))).trans inv_alloc).trans (bigSep_fupd _ _)
  unfold G
  rw [ownSems0_eq, unscopedSems0_eq]
  iintro ⟨⟨HS, HV⟩, HB, Hst, Hat, Htok⟩
  imod hinv $$ [HS HV HB Hst] with Hinv
  · isplitr [Hst]
    · rw [bigSep_three]
      isplitl [HB]; · iexact HB
      isplitl [HS] <;> iassumption
    · iexact Hst
  imodintro
  isplitl [Hinv]; · iexact Hinv
  isplitl [Hat] <;> iassumption

/-- The invariants and the reached marks of every device's semaphores: each device may use them all. -/
def records (K : Dev nD × Fin 3 → ℕ) : sProp 𝕄 :=
  iprop((bigSep Finset.univ fun ck : Dev nD × Fin 3 => cellInv ER (exRd m) (K ck) (kcell ck))
    ∗ bigSep Finset.univ fun ck : Dev nD × Fin 3 => reached ER (kcell ck) 0)

/-- The cells' records can be kept while they are used. -/
instance records_persistent (K : Dev nD × Fin 3 → ℕ) : BI.Persistent (records m K) := by unfold records; infer_instance

/-- The records give any one cell's invariant. -/
theorem inv_at (K : Dev nD × Fin 3 → ℕ) (ck : Dev nD × Fin 3) :
    (bigSep Finset.univ fun ck : Dev nD × Fin 3 => (cellInv ER (exRd m) (K ck) (kcell ck) : sProp 𝕄)) ⊢ cellInv ER (exRd m) (K ck) (kcell ck) :=
  bigSep_elim (Finset.mem_univ ck)
/-- The records give any one cell's round. -/
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What device `c` alone holds: its positions, and the duties it pays. -/
def linear (c : Dev nD) : sProp 𝕄 :=
  iprop((bigSep Finset.univ fun k : Fin 3 => atPos ER (kcell (c, k)) 0 ∅ 0) ∗ payToks c)

/-- The records and a device's own duties are what the device starts with. -/
theorem ghost_intro (K : Dev nD × Fin 3 → ℕ) (c : Dev nD) : iprop(records m K ∗ linear c) ⊢ G' m c := by
  unfold records linear G' ghost invs
  rw [bigSep_three]
  iintro ⟨⟨#HI, #HR⟩, ⟨HaB, HaS, HaV⟩, Ht⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  iexact Ht

/-- The duties of the barrier and receive semaphores change hands within each row. -/
theorem toks_dealt :
    (bigSep Finset.univ fun c : Dev nD => (bigSep Finset.univ fun k : Fin 3 => dutyTok ER (kcell (c, k)) 0 () : sProp 𝕄))
      ⊢ bigSep Finset.univ fun c : Dev nD => payToks c := by
  unfold payToks
  simp only [bigSep_three, bigSep_sep']
  rw [bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

/-- Something that can be kept is handed to every factor of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The duties sorted by cell, sorted again by the device that pays them. -/
theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0))
          ∗ bigSep Finset.univ fun k : Fin 3 => dutyTok ER (kcell (c, k)) 0 ()) : sProp 𝕄)
      ⊢ bigSep Finset.univ (G' m) := by
  rw [bigSep_sep', bigSep_sep', ← bigSep_univ_prod (fun ck : Dev nD × Fin 3 => iprop(∃ κ : ℕ, cellInv ER (exRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (exRd m) κ (kcell ck) : sProp 𝕄))) $$ HI
  icases HK with ⟨%K, #HI⟩
  ihave Htk := (toks_dealt (F := F)) $$ Htok
  iapply (bigSep_with_persistent (R := records m K) fun c _ => ghost_intro m K c)
  isplitr
  · unfold records; isplitl; · iexact HI
    iexact HR
  · unfold linear; rw [bigSep_sep']
    isplitl [Hat] <;> iassumption

/-- The exchange's ghost state of every device, from every device's semaphores at zero. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credit -/

/-- A sum over devices of what only the partner owes. -/
theorem owed_of_peer {a b : Dev nD} {sm : SemLoc sig} {n : ℕ} :
    (tallyAt (((peer a : Dev nD) : Thread nD τ), sm) () n : CellTallies nD τ sig Unit) ((b : Thread nD τ), sm) () = if a = peer b then n else 0 := by
  rw [tallyAt_apply]
  refine if_congr ⟨fun h => ?_, fun h => ?_⟩ rfl rfl
  · have hb : b = peer a := congrArg (fun g : GSem nD τ sig => g.1.1) h.1
    rw [hb, peer_peer]
  · rw [h, peer_peer]; exact ⟨rfl, rfl⟩

/-- Only the partner owes a device's barrier, and only the partner owes its receive semaphore. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), owed_of_peer, Finsupp.zero_apply, Nat.zero_add]
/-- A device owes its landing credit to its partner's cell alone. -/
theorem owed_recv (d c : Dev nD) : O₀ d (recvCell c) () = if d = peer c then N else 0 := by
  unfold O₀
  rw [Pi.add_apply, Finsupp.add_apply, owed_of_peer, tallyAt_ne_cell (fun h => recv_ne_bar (congrArg Prod.snd h)), Finsupp.zero_apply, Nat.add_zero]

/-- A cell is owed at launch what its device's partner owes it. -/
theorem launch_of_owed (c : Dev nD) (sm : SemLoc sig) (n : ℕ) (h : ∀ d, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

/-- The credits that a device's waits take, out of those at launch. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_of_owed c _ 1 (owed_bar · c)]
  refine sep_mono_right ?_
  rw [← launch_of_owed c (SemLoc.dma recvS) N (owed_recv · c)]
  exact bigSep_elim (Finset.mem_erase.mpr ⟨recv_ne_bar, Finset.mem_univ _⟩)

/-! ## The launch theorem's conditions -/

/-- The machine at the start: memory `m`, every semaphore at zero. -/
abbrev s₀ : MemSt nD τ sig (Elt F) := ⟨m, fun _ => 0, ρ⟩

/-- Every window is held whole. -/
theorem share_eq (c : Dev nD) (w : Fin cfg0.W) : (dats m 0 c).share w = fullShare := by unfold Dat.share; split <;> rfl

/-- What a device has at launch is what its first point needs. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

/-- Before point 0: what the exchange needs, and the five scratch buffers at any contents. -/
theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [Φ_at, if_neg (by decide), scopedRest0_eq]
  unfold ready running
  simp only [pack_eq, land_eq]
  iintro ⟨Hs, -, ⟨%f0, H0⟩, ⟨%f1, H1⟩, ⟨%f2, H2⟩, H3, H4⟩
  isplitl [Hs]; · iexact Hs
  isplitl [H0 H1 H2]
  · iexists f0, f1, f2
    isplitr; · ipureintro; exact fun h => absurd rfl h
    rw [owns_whole, owns_whole, owns_whole]
    isplitl [H0]; · iexact H0
    isplitl [H1] <;> iassumption
  isplitl [H3] <;> iassumption

/-- After the last point: the scratch buffers, and the three semaphores at zero. -/
theorem phi_exit (c : Dev nD) :
    (dats m 0 c).Φ (Fin.last cfg0.N) ⊢ iprop(unscopedSems0 c ∗ Pipeline.ownSems0 osem c ∗ Pipeline.scopedRest cfg0.spec c) := by
  rw [Φ_at, if_pos (by decide), scopedRest0_eq, ownSems0_eq, unscopedSems0_eq]
  unfold done running
  simp only [pack_eq, land_eq, owns_whole]
  iintro ⟨⟨%f0, %f1, %f2, -, H0, H1, H2⟩, H3, H4, HzS, HzV, HzB⟩
  isplitl [HzB]; · iexact HzB
  isplitl [HzS HzV]
  · isplitl [HzS] <;> iassumption
  isplitl [H0]; · iexists f0; iexact H0
  isplitl [H1]; · iexists f1; iexact H1
  isplitl [H2]; · iexists f2; iexact H2
  isplitl [H3]; · iexists _; iexact H3
  iexists _; iexact H4

/-- The pipeline's own waits are allowed, whatever the device still owes. -/
theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      show (if t.val = 8 then 0 else O₀ c) = O₀ c ∨ (if t.val = 8 then 0 else O₀ c) = 0
      split
      · exact .inr rfl
      · exact .inl rfl)

/-! ## The run -/

set_option maxRecDepth 8000 in
/-- From any memory with every semaphore at zero, every weakly fair execution of the program ends, each device's arrays
    at their final contents and every semaphore at zero. -/
theorem run_arrays : θ_run defs (onTc (τ := τ) (main (F := F))) (s₀ m ρ) (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun c => (owed_at m c 0).trans (if_neg (by decide))) (howedN := fun c => (owed_at m c (Fin.last cfg0.N)).trans (if_pos (by decide)))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The result array -/

/-- The result's one block is the whole array. -/
theorem result_block (t : Fin cfg0.N) (a : Fin 2) :
    win0_3.index t a * win0_3.size a = 0 ∧ win0_3.xsize (grid0.coords t) a = S512x1.size a := by
  revert t a; decide +kernel

/-- The result's block is the whole result. -/
theorem result_read (t : Fin cfg0.N) (g : S512x1.Idx → Elt F .f32) : (win0_3.blk t).view.read (Elt F) g = g := by
  funext j
  show g ((win0_3.rect t).emb j) = g j
  congr 1
  funext a; apply Fin.ext
  show win0_3.index t a * win0_3.size a + 1 * (j a).val = (j a).val
  rw [(result_block t a).1]; omega

/-- Every entry of the result is in the last point's block. -/
theorem result_cover (i : S512x1.Idx) :
    ∃ t : Fin cfg0.N, (cfg0.win 3).flush t = true ∧ i ∈ ((cfg0.win 3).blk t).view.set := by
  refine ⟨t0_7, (flush0_3 t0_7).mpr (by decide), ?_⟩
  show i ∈ ((View.whole main_v1).slice (win0_3.rect t0_7)).set
  rw [View.set_slice_whole, Rect.mem_set_unit]
  intro a
  show win0_3.index t0_7 a * win0_3.size a ≤ (i a : ℕ) ∧ (i a : ℕ) < win0_3.index t0_7 a * win0_3.size a + win0_3.xsize (grid0.coords t0_7) a
  rw [(result_block t0_7 a).1, (result_block t0_7 a).2, Nat.zero_add]
  exact ⟨Nat.zero_le _, (i a).isLt⟩

/-- The result array ends holding what the last point stored. -/
theorem result_final (c : Dev nD) : (dats m 0 c).arrAt 3 cfg0.N = outAt m c :=
  (dats m 0 c).arrAt_eq_of_cover 3 (outAt m c) (fun t _ => (show _ = _ from (result_read t (outAt m c)).symm)) result_cover

/-- THE RUN: every weakly fair execution ends with each device's result at `outAt`, its arguments as they were, and
    every semaphore at zero. -/
theorem run : θ_run defs (onTc (τ := τ) (main (F := F))) (s₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c 3).trans (result_final m c),
    (h.1 c 0).trans ((dats m 0 c).arrAt_in 0 rfl _), (h.1 c 1).trans ((dats m 0 c).arrAt_in 1 rfl _),
    (h.1 c 2).trans ((dats m 0 c).arrAt_in 2 rfl _)⟩, h.2⟩) (run_arrays m ρ)

end Cert.KernelIdeal.Hand

end
-- ==== Proof.Value.Loss.lean ====
/- The loss both programs compute, over extended reals: a row's logits against the whole vocabulary, the logarithm
   of the sum of their exponentials, less the labelled logit. Here too are the two facts about it the programs
   differ by: a sum over the vocabulary regrouped by mesh column, grid point and lane, and the logarithm of a sum
   of exponentials computed with any real shift. -/
module

public import Idealize.ShloMosaic.Lib.Pointwise.Index
public import Idealize.ShloMosaic.PureOps.Ideal
public import Mathlib.Logic.Equiv.Fin.Basic
public import Mathlib.Analysis.SpecialFunctions.Log.Basic

@[expose] public section

noncomputable section

namespace Cert.Value

open Idealize.ShloMosaic
open scoped BigOperators

/-- The activations and the whole weight matrix, as arrays of extended reals. -/
abbrev Acts := (⟨2, ![512, 1024]⟩ : Shape).Idx → EReal
/-- The whole weight matrix, as an array of extended reals. -/
abbrev Weights := (⟨2, ![1024, 16384]⟩ : Shape).Idx → EReal

/-- Row `r`'s logit at vocabulary entry `v`. -/
def logit (x : Acts) (w : Weights) (r : Fin 512) (v : Fin 16384) : EReal := ∑ k : Fin 1024, x (ix2 r k) * w (ix2 k v)

/-- Row `r`'s loss at label `l`. -/
def loss (x : Acts) (w : Weights) (r : Fin 512) (l : Fin 16384) : EReal :=
  Ideal.log (∑ v, Ideal.exp (logit x w r v)) - logit x w r l

/-! ## The vocabulary by mesh column, grid point and lane -/

/-- The vocabulary entry of mesh column `h`, grid point `t`, lane `j`. -/
def entry (h : Fin 2) (t : Fin 8) (j : Fin 1024) : Fin 16384 :=
  ⟨h.val * 8192 + t.val * 1024 + j.val, by have := h.isLt; have := t.isLt; have := j.isLt; omega⟩

/-- Every vocabulary entry has exactly one such place. -/
def entryEquiv : Fin 2 × Fin 8 × Fin 1024 ≃ Fin 16384 where
  toFun p := entry p.1 p.2.1 p.2.2
  invFun v := (⟨v.val / 8192, by have := v.isLt; omega⟩, ⟨v.val % 8192 / 1024, by omega⟩, ⟨v.val % 1024, by omega⟩)
  left_inv := fun ⟨h, t, j⟩ => by
    have := h.isLt; have := t.isLt; have := j.isLt
    refine Prod.ext (Fin.ext ?_) (Prod.ext (Fin.ext ?_) (Fin.ext ?_)) <;> simp only [entry] <;> omega
  right_inv v := Fin.ext (by simp only [entry]; omega)

/-- A sum over the vocabulary is the sum over columns, points and lanes. -/
theorem sum_entries {M : Type*} [AddCommMonoid M] (f : Fin 16384 → M) :
    ∑ v, f v = ∑ h, ∑ t, ∑ j, f (entry h t j) := by
  rw [← Equiv.sum_comp entryEquiv f, Fintype.sum_prod_type]
  exact Finset.sum_congr rfl fun h _ => Fintype.sum_prod_type _

/-- A sum in which only the labelled entry counts is that entry. -/
theorem sum_picked (f : Fin 16384 → EReal) (l : Fin 16384) :
    ∑ h, ∑ t, ∑ j, (if entry h t j = l then f (entry h t j) else 0) = f l := by
  rw [← sum_entries fun v => if v = l then f v else 0]
  simp

/-! ## The shifted logarithm of a sum of exponentials -/

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a nonempty sum of exponentials of reals, computed with every term shifted by a real `M`, is the
    unshifted one. -/
theorem shifted_log {n : ℕ} [NeZero n] (f : Fin n → ℝ) (M : ℝ) :
    (M : EReal) + Ideal.log (∑ v, Ideal.exp ((f v : EReal) - (M : EReal))) = Ideal.log (∑ v, Ideal.exp (f v : EReal)) := by
  have pos : ∀ g : Fin n → ℝ, 0 < ∑ v, Real.exp (g v) := fun g =>
    Finset.sum_pos (fun v _ => Real.exp_pos _) ⟨0, Finset.mem_univ _⟩
  have tot : ∀ g : Fin n → ℝ, Ideal.log (∑ v, Ideal.exp (g v : EReal)) = ((Real.log (∑ v, Real.exp (g v)) : ℝ) : EReal) := by
    intro g
    have e : ∑ v, Ideal.exp (g v : EReal) = ((∑ v, Real.exp (g v) : ℝ) : EReal) := (coe_sum _ _).symm
    rw [e]
    exact if_neg (not_le.mpr (pos g))
  have sub : ∀ v, (f v : EReal) - (M : EReal) = ((f v - M : ℝ) : EReal) := fun v => (EReal.coe_sub _ _).symm
  simp only [sub]
  rw [tot, tot, ← EReal.coe_add]
  congr 1
  have : ∑ v, Real.exp (f v - M) = (∑ v, Real.exp (f v)) / Real.exp M := by
    rw [Finset.sum_div]; exact Finset.sum_congr rfl fun v _ => Real.exp_sub _ _
  rw [this, Real.log_div (pos f).ne' (Real.exp_pos M).ne', Real.log_exp]
  ring

/-- The maximum of reals and the least extended real, over a nonempty set, is a real. -/
theorem exists_fold_max {ι : Type*} (s : Finset ι) (hs : s.Nonempty) (f : ι → ℝ) :
    ∃ M : ℝ, s.fold max ⊥ (fun i => (f i : EReal)) = (M : EReal) := by
  classical
  induction hs using Finset.Nonempty.cons_induction with
  | singleton a => exact ⟨f a, by simp⟩
  | cons a s ha _ ih =>
    obtain ⟨M, hM⟩ := ih
    exact ⟨max (f a) M, by rw [Finset.fold_cons, hM]; exact (EReal.coe_strictMono.monotone.map_max).symm⟩

/-- A logit of real activations and weights is a real. -/
theorem exists_logit {x : Acts} {w : Weights} (hx : ∀ i, ∃ a : ℝ, x i = (a : EReal)) (hw : ∀ i, ∃ a : ℝ, w i = (a : EReal))
    (r : Fin 512) (v : Fin 16384) : ∃ a : ℝ, logit x w r v = (a : EReal) := by
  choose a ha using hx
  choose b hb using hw
  refine ⟨∑ k : Fin 1024, a (ix2 r k) * b (ix2 k v), ?_⟩
  rw [coe_sum]
  exact Finset.sum_congr rfl fun k _ => by rw [ha, hb]; exact (EReal.coe_mul _ _).symm

end Cert.Value

end
-- ==== Proof.Value.Blocks.lean ====
/- The blocks the kernel's points read, at an index, and its payloads at an index over extended reals. -/
module

public import proofs.«01_k».proof.Proof.KernelIdeal.Contents
public import proofs.«01_k».proof.Proof.Value.Loss
public import Idealize.ShloMosaic.Lib.Pointwise
public import Idealize.ShloMosaic.Lib.Layout

@[expose] public section

noncomputable section

namespace Cert.KernelIdeal.Hand

open Cert.KernelIdeal Cert.KernelIdeal.Gen Cert.Value
open Idealize.ShloMosaic Idealize.ShloMosaic.TcCoe
open scoped BigOperators

variable (m : (ℓ : Loc nD τ sig) → Buf (Elt Ideal) ℓ)

/-! ## The blocks -/

/-- Where the three inputs' blocks start: the activations and the labels at the origin, the weights at the point's
    thousand-odd columns. -/
theorem block_starts (t : Fin cfg0.N) :
    (win0_0.index t 0 = 0 ∧ win0_0.index t 1 = 0) ∧ (win0_1.index t 0 = 0 ∧ win0_1.index t 1 = t.val)
      ∧ (win0_2.index t 0 = 0 ∧ win0_2.index t 1 = 0) := by
  revert t; decide +kernel

/-- The activations' block is all of the activations. -/
theorem xBlk_apply (c : Dev nD) (t : Fin cfg0.N) (r : Fin 512) (k : Fin 1024) :
    xBlk m c t (ix2 r k) = m ((c.tc : Thread nD τ).loc main_arg0) (ix2 r k) := by
  show m ((c.tc : Thread nD τ).loc main_arg0) ((win0_0.rect t).emb (ix2 r k)) = _
  congr 1
  funext a; apply Fin.ext
  show win0_0.index t a * win0_0.size a + 1 * ((ix2 r k : S512x1024.Idx) a).val = ((ix2 r k : S512x1024.Idx) a).val
  match a with
  | ⟨0, _⟩ => have := (block_starts t).1.1; simp only [Fin.zero_eta, this]; omega
  | ⟨1, _⟩ => have := (block_starts t).1.2; simp only [Fin.mk_one, this]; omega

/-- The weights' block at point `t` is columns `1024 t` on of the device's half. -/
theorem wBlk_apply (c : Dev nD) (t : Fin 8) (k : Fin 1024) (j : Fin 1024) :
    wBlk m c t (ix2 k j) = m ((c.tc : Thread nD τ).loc main_arg1)
      (ix2 k (⟨t.val * 1024 + j.val, by have := t.isLt; have := j.isLt; omega⟩ : Fin 8192)) := by
  show m ((c.tc : Thread nD τ).loc main_arg1) ((win0_1.rect t).emb (ix2 k j)) = _
  congr 1
  funext a; apply Fin.ext
  show win0_1.index t a * win0_1.size a + 1 * ((ix2 k j : S1024x1024.Idx) a).val = _
  match a with
  | ⟨0, _⟩ =>
    have := (block_starts t).2.1.1; simp only [Fin.zero_eta, this]
    show 0 * _ + 1 * k.val = k.val
    omega
  | ⟨1, _⟩ =>
    have := (block_starts t).2.1.2; simp only [Fin.mk_one, this]
    show t.val * 1024 + 1 * j.val = t.val * 1024 + j.val
    omega

/-- The labels' block is all of the labels. -/
theorem lBlk_apply (c : Dev nD) (t : Fin cfg0.N) (r : Fin 512) :
    lBlk m c t (ix2 r 0) = m ((c.tc : Thread nD τ).loc main_arg2) (ix2 r 0) := by
  show m ((c.tc : Thread nD τ).loc main_arg2) ((win0_2.rect t).emb (ix2 r 0)) = _
  congr 1
  funext a; apply Fin.ext
  show win0_2.index t a * win0_2.size a + 1 * ((ix2 r 0 : S512x1.Idx) a).val = ((ix2 r 0 : S512x1.Idx) a).val
  match a with
  | ⟨0, _⟩ => have := (block_starts t).2.2.1; simp only [Fin.zero_eta, this]; omega
  | ⟨1, _⟩ => have := (block_starts t).2.2.2; simp only [Fin.mk_one, this]; omega

/-! ## The payloads -/

/-- The kept activations are the activations: a format change is the identity on extended reals. -/
theorem pay6_apply (x : Vec Ideal S512x1024 .f32) (r : Fin 512) (k : Fin 1024) : k0_pay6 (F := Ideal) x (ix2 r k) = x (ix2 r k) := by
  pointwise [k0_pay6]

/-- A point's chunk of logits. -/
theorem pay9_apply (x : Vec Ideal S512x1024 .bf16) (w : Vec Ideal S1024x1024 .f32) (r : Fin 512) (j : Fin 1024) :
    k0_pay9 (F := Ideal) x w (ix2 r j) = ∑ k : Fin 1024, x (ix2 r k) * w (ix2 k j) := by
  pointwise [k0_pay9]

/-- A running sum starts at zero. -/
theorem pay7_apply (r : Fin 512) : k0_pay7 (F := Ideal) (ix2 r 0) = 0 := by
  pointwise [k0_pay7]
/-- The running picked logit starts at zero. -/
theorem pay8_apply (r : Fin 512) : k0_pay8 (F := Ideal) (ix2 r 0) = 0 := by
  pointwise [k0_pay8]

/-- The running sum of exponentials grows by the chunk's. -/
theorem pay10_apply (x : Vec Ideal S512x1024 .bf16) (w : Vec Ideal S1024x1024 .f32) (s : Vec Ideal S512x1 .f32) (r : Fin 512) :
    k0_pay10 (F := Ideal) x w s (ix2 r 0) = s (ix2 r 0) + ∑ j : Fin 1024, Ideal.exp (k0_pay9 (F := Ideal) x w (ix2 r j)) := by
  pointwise [k0_pay10]

/-- A select on the equality of two words is the `if` on it. -/
theorem select_eq_ite {α : Type} (a b : BitVec 32) (x y : α) :
    Scalar.select (IntOp.cmpi .eq a b) x y = if a = b then x else y := by
  by_cases h : a = b
  · subst h; simp [Scalar.select, IntOp.cmpi]
  · rw [if_neg h]
    show Scalar.select (BitVec.ofBool (a == b)) x y = y
    rw [beq_eq_false_iff_ne.mpr h]; rfl

/-- The running picked logit grows by the chunk's lanes whose number is the label's. -/
theorem pay1_apply (v : Vec Ideal S512x1024 .f32) (lab : IVec S512x1 32) (lane : IVec S512x1024 32) (p : Vec Ideal S512x1 .f32)
    (r : Fin 512) :
    k0_pay1 (F := Ideal) v lab lane p (ix2 r 0)
      = p (ix2 r 0) + ∑ j : Fin 1024, if lane (ix2 r j) = lab (ix2 r 0) then v (ix2 r j) else 0 := by
  pointwise [k0_pay1]
  simp only [select_eq_ite]

/-- The loss from both halves' sums and picked logits. -/
theorem pay2_apply (a b a' b' : Vec Ideal S512x1 .f32) (r : Fin 512) :
    k0_pay2 (F := Ideal) a b (k0_pay3 a') (k0_pay4 b') (ix2 r 0)
      = Ideal.log (a (ix2 r 0) + a' (ix2 r 0)) - (b (ix2 r 0) + b' (ix2 r 0)) := by
  pointwise [k0_pay2, k0_pay3, k0_pay4]

/-- A lane's number, and a label's within its device's half, as words. -/
theorem pay12_apply (t : Fin 8) (r : Fin 512) (j : Fin 1024) :
    k0_pay12 (grid0.coords t) (ix2 r j) = BitVec.ofNat 32 (t.val * 1024 + j.val) := by
  have ht : ((grid0.coords t) 0).val = t.val := by revert t; decide +kernel
  pointwise [k0_pay12]
  rw [ht]
  apply BitVec.eq_of_toNat_eq
  simp [IntOp.addi, Scalar.muli, IntOp.muli]
  omega
/-- The labels less the first entry of the device's half. -/
theorem pay11_apply (c : Dev nD) (l : Vec Ideal S512x1 .i32) (r : Fin 512) :
    k0_pay11 c l (ix2 r 0) = l (ix2 r 0) - BitVec.ofNat 32 (c.val % 2 * 8192) := by
  have h : Scalar.muli (Scalar.remsi (Scalar.divsi (Dev.word c) 1#32) 2#32) 8192#32 = BitVec.ofNat 32 (c.val % 2 * 8192) := by
    revert c; decide
  pointwise [k0_pay11]
  rw [h]; rfl

end Cert.KernelIdeal.Hand

end
-- ==== Proof.Value.Halves.lean ====
/- What a device stores is the loss: its own half's and its partner's half's running sums are the two halves of the
   sum over the vocabulary, and likewise for the picked logit. -/
module

public import proofs.«01_k».proof.Proof.Value.Blocks

@[expose] public section

noncomputable section

namespace Cert.KernelIdeal.Hand

open Cert.KernelIdeal Cert.KernelIdeal.Gen Cert.Value
open Idealize.ShloMosaic Idealize.ShloMosaic.TcCoe
open scoped BigOperators

variable (m : (ℓ : Loc nD τ sig) → Buf (Elt Ideal) ℓ) (x : Acts) (w : Weights) (l : Fin 512 → Fin 16384)

/-- Which half of the vocabulary a device holds. -/
def half (c : Dev nD) : Fin 2 := ⟨c.val % 2, Nat.mod_lt _ (by decide)⟩

/-- Partners hold different halves. -/
theorem half_peer (c : Dev nD) : half c = 0 ∧ half (peer c) = 1 ∨ half c = 1 ∧ half (peer c) = 0 := by
  revert c; decide

/-- The launch memory holds the arrays: the activations and the labels whole, the weights by halves. -/
structure Holds : Prop where
  acts : ∀ c : Dev nD, m ((c.tc : Thread nD τ).loc main_arg0) = x
  weights : ∀ c : Dev nD, m ((c.tc : Thread nD τ).loc main_arg1)
    = Layout.blockN ⟨2, ![1024, 8192]⟩ ⟨2, ![1024, 16384]⟩ (Layout.meshBlock [2, 2] ![[], [1]] c) w
  labels : ∀ (c : Dev nD) (r : Fin 512), m ((c.tc : Thread nD τ).loc main_arg2) (ix2 r 0) = BitVec.ofNat 32 (l r).val

/-- A device's half of the weights, at an index. -/
theorem half_apply (c : Dev nD) (k : Fin 1024) (v : Fin 8192) :
    (Layout.blockN ⟨2, ![1024, 8192]⟩ ⟨2, ![1024, 16384]⟩ (Layout.meshBlock [2, 2] ![[], [1]] c) w) (ix2 k v)
      = w (ix2 k ⟨(half c).val * 8192 + v.val, by have := (half c).isLt; have := v.isLt; omega⟩) := by
  have h0 : Layout.meshLin [2, 2] c.val [] = 0 := rfl
  have h1 : Layout.meshLin [2, 2] c.val [1] = c.val % 2 := by revert c; decide
  rw [Layout.blockN_apply]
  congr 1
  funext a; apply Fin.ext
  rw [Layout.TilesN.idx_val]
  match a with
  | ⟨0, _⟩ => show Layout.meshLin [2, 2] c.val [] * 1024 + k.val = k.val; rw [h0]; omega
  | ⟨1, _⟩ => show Layout.meshLin [2, 2] c.val [1] * 8192 + v.val = c.val % 2 * 8192 + v.val; rw [h1]

variable {m x w l} (hm : Holds m x w l)
include hm

/-- A point's chunk of logits is the whole matrix's at the chunk's vocabulary entries. -/
theorem chunk (c : Dev nD) (t : Fin 8) (r : Fin 512) (j : Fin 1024) :
    k0_pay9 (F := Ideal) (xb m c) (wBlk m c t) (ix2 r j) = logit x w r (entry (half c) t j) := by
  rw [pay9_apply]
  refine Finset.sum_congr rfl fun k _ => ?_
  rw [xb, pay6_apply, xBlk_apply, wBlk_apply, hm.acts c, hm.weights c, half_apply]
  refine congrArg (fun v => x (ix2 r k) * w (ix2 k v)) (Fin.ext ?_)
  show (half c).val * 8192 + (t.val * 1024 + j.val) = (half c).val * 8192 + t.val * 1024 + j.val
  omega

omit hm in
/-- A lane's number is the label's within the half exactly when the lane's vocabulary entry is the label. -/
theorem lane_iff (h : Fin 2) (t : Fin 8) (j : Fin 1024) (v : Fin 16384) :
    BitVec.ofNat 32 (t.val * 1024 + j.val) = BitVec.ofNat 32 v.val - BitVec.ofNat 32 (h.val * 8192) ↔ entry h t j = v := by
  have := h.isLt; have := t.isLt; have := j.isLt; have := v.isLt
  rw [BitVec.eq_sub_iff_add_eq, ← BitVec.ofNat_add, ← BitVec.toNat_inj, BitVec.toNat_ofNat, BitVec.toNat_ofNat, Fin.ext_iff]
  show _ ↔ h.val * 8192 + t.val * 1024 + j.val = v.val
  omega

/-- The running sum of exponentials after `n` points. -/
theorem sAcc_apply (c : Dev nD) (r : Fin 512) (n : ℕ) :
    sAcc m c n (ix2 r 0) = ∑ i ∈ Finset.range n, ∑ j, Ideal.exp (logit x w r (entry (half c) (pt i) j)) := by
  induction n with
  | zero => exact pay7_apply r
  | succ n ih =>
    rw [Finset.sum_range_succ, ← ih, sAcc, pay10_apply]
    exact congrArg _ (Finset.sum_congr rfl fun j _ => by rw [chunk hm c (pt n) r j])

/-- The running picked logit after `n` points. -/
theorem pAcc_apply (c : Dev nD) (r : Fin 512) (n : ℕ) :
    pAcc m c n (ix2 r 0) = ∑ i ∈ Finset.range n, ∑ j,
      if entry (half c) (pt i) j = l r then logit x w r (entry (half c) (pt i) j) else 0 := by
  induction n with
  | zero => exact pay8_apply r
  | succ n ih =>
    rw [Finset.sum_range_succ, ← ih, pAcc, pay1_apply]
    refine congrArg _ (Finset.sum_congr rfl fun j _ => ?_)
    rw [chunk hm c (pt n) r j, pay12_apply (pt n), pay11_apply, lBlk_apply, hm.labels c r]
    exact if_congr (lane_iff (half c) (pt n) j (l r)) rfl rfl

/-- A device's whole half, as sums over its points. -/
theorem sAcc_half (c : Dev nD) (r : Fin 512) :
    sAcc m c 8 (ix2 r 0) = ∑ t : Fin 8, ∑ j, Ideal.exp (logit x w r (entry (half c) t j)) := by
  rw [sAcc_apply hm, Finset.sum_range]
  exact Finset.sum_congr rfl fun t _ => by rw [pt_val t]
/-- The picked logit of a device's half, as a sum over its points. -/
theorem pAcc_half (c : Dev nD) (r : Fin 512) :
    pAcc m c 8 (ix2 r 0) = ∑ t : Fin 8, ∑ j, if entry (half c) t j = l r then logit x w r (entry (half c) t j) else 0 := by
  rw [pAcc_apply hm, Finset.sum_range]
  exact Finset.sum_congr rfl fun t _ => by rw [pt_val t]

/-- Every device stores the loss of each row. -/
theorem outAt_apply (c : Dev nD) (r : Fin 512) : outAt m c (ix2 r 0) = loss x w r (l r) := by
  rw [outAt, pay2_apply, sAcc_half hm, sAcc_half hm, pAcc_half hm, pAcc_half hm, loss, sum_entries,
    ← sum_picked (logit x w r) (l r), Fin.sum_univ_two, Fin.sum_univ_two]
  rcases half_peer c with ⟨h, h'⟩ | ⟨h, h'⟩
  · rw [h, h']
  · rw [h, h', add_comm (∑ t : Fin 8, ∑ j, Ideal.exp _), add_comm (∑ t : Fin 8, ∑ j, if entry 1 t j = l r then _ else _)]

end Cert.KernelIdeal.Hand

end
-- ==== Proof.Value.Domain.lean ====
/- What the precondition says: the activations and a device's block of the weights are real numbers, and the labels are
   entries of the vocabulary. -/
module

public import proofs.«01_k».proof.Pre_labelled_KernelIdeal
public import proofs.«01_k».proof.Proof.Value.Halves
public import Idealize.ShloMosaic.Lib.ReduceAll
public import Idealize.ShloMosaic.Lib.StableHlo.Predicate

@[expose] public section

noncomputable section

namespace Cert.Value

open Idealize.ShloMosaic

/-- A number whose absolute value is below infinity is a real number. -/
theorem real_of_abs_lt {a : EReal} (h : max a (-a) < ⊤) : ∃ r : ℝ, a = (r : EReal) := by
  induction a with
  | bot => simp at h
  | coe r => exact ⟨r, rfl⟩
  | top => simp at h

/-- The same of the comparison's bit, against the pattern of positive infinity. -/
theorem real_of_bit {a : EReal} (h : Ideal.cmp .olt (max a (-a)) (Ideal.ofBits .f32 0x7F800000#32) = 1) :
    ∃ r : ℝ, a = (r : EReal) := by
  have ht : Ideal.ofBits .f32 0x7F800000#32 = ⊤ := by simp [Ideal.ofBits, Ideal.ieee]
  rw [Ideal.cmp_olt_eq_one, ht] at h
  exact real_of_abs_lt h

/-- A word at least 0 and below 16384, read signed, is a number below 16384. -/
theorem label_of_bits {v : BitVec 32} (h0 : IntOp.cmpi .sge v 0#32 = 1#1) (h1 : IntOp.cmpi .slt v 16384#32 = 1#1) :
    v.toNat < 16384 := by
  have e0 : BitVec.sle 0#32 v = true := by
    by_contra hn
    rw [show IntOp.cmpi .sge v 0#32 = BitVec.ofBool (BitVec.sle 0#32 v) from rfl, Bool.eq_false_iff.mpr hn] at h0
    exact absurd h0 (by decide)
  have e1 : BitVec.slt v 16384#32 = true := by
    by_contra hn
    rw [show IntOp.cmpi .slt v 16384#32 = BitVec.ofBool (BitVec.slt v 16384#32) from rfl, Bool.eq_false_iff.mpr hn] at h1
    exact absurd h1 (by decide)
  rw [BitVec.sle_iff_toInt_le] at e0
  rw [BitVec.slt_iff_toInt_lt] at e1
  have c0 : (0#32 : BitVec 32).toInt = 0 := by decide
  have c1 : (16384#32 : BitVec 32).toInt = 16384 := by decide
  rw [c0] at e0; rw [c1] at e1
  rw [BitVec.toInt_eq_toNat_cond] at e0 e1
  have := v.isLt
  split at e0 <;> omega

open Cert.Pre_labelled_KernelIdeal in
/-- The precondition of one device's arrays, read. -/
theorem domain [Cert.Pre_labelled_KernelIdeal.Facts] (x : FVec Ideal S512x1024 .f32) (w : FVec Ideal S1024x8192 .f32) (l : IVec S512x1 32)
    (h : Cert.Pre_labelled_KernelIdeal.fn (F := Ideal) x w l = fun _ => 1#1) :
    (∀ i, ∃ a : ℝ, x i = (a : EReal)) ∧ (∀ i, ∃ a : ℝ, w i = (a : EReal)) ∧ ∀ i, (l i).toNat < 16384 := by
  have hs : Subsingleton S_.Idx := ⟨fun a b => funext fun k => k.elim0⟩
  obtain ⟨h01, h2⟩ := IntOp.andi_eq_one.1 (congrFun h fun k => k.elim0)
  obtain ⟨h0, h1⟩ := IntOp.andi_eq_one.1 h01
  refine ⟨fun i => ?_, fun i => ?_, fun i => ?_⟩
  · exact real_of_bit (Host.reduce_andi_all _ _ _ _ _ h0 i)
  · exact real_of_bit (Host.reduce_andi_all _ _ _ _ _ h1 i)
  · obtain ⟨ha, hb⟩ := IntOp.andi_eq_one.1 (Host.reduce_andi_all _ _ _ _ _ h2 i)
    exact label_of_bits ha hb

open Cert.KernelIdeal Cert.KernelIdeal.Hand in
/-- Weights whose two halves are real numbers are real numbers. -/
theorem weights_real (w : Weights)
    (hw : ∀ (c : Dev nD) (k : Fin 1024) (v : Fin 8192), ∃ a : ℝ, (Layout.blockN ⟨2, ![1024, 8192]⟩ ⟨2, ![1024, 16384]⟩
      (Layout.meshBlock [2, 2] ![[], [1]] c) w) (ix2 k v) = (a : EReal)) (k : Fin 1024) (v : Fin 16384) :
    ∃ a : ℝ, w (ix2 k v) = (a : EReal) := by
  have hlt : v.val < 16384 := v.isLt
  have hc : ∃ c : Dev nD, (half c).val = v.val / 8192 := by
    by_cases hlo : v.val < 8192
    · exact ⟨0, by show 0 % 2 = _; omega⟩
    · exact ⟨1, by show 1 % 2 = _; omega⟩
  obtain ⟨c, hc⟩ := hc
  obtain ⟨a, ha⟩ := hw c k ⟨v.val % 8192, by omega⟩
  refine ⟨a, ?_⟩
  rw [← ha, half_apply]
  exact congrArg (fun u => w (ix2 k u)) (Fin.ext (by show v.val = (half c).val * 8192 + v.val % 8192; rw [hc]; omega))

end Cert.Value

end
-- ==== Proof.Value.Reference.lean ====
/- What the reference computes: each row's loss, when the activations and the weights are real numbers and the labels are
   entries of the vocabulary. -/
module

public import proofs.«01_k».proof.Proof.Gen.ReferenceIdeal.Read
public import proofs.«01_k».proof.Proof.Value.Loss

@[expose] public section

noncomputable section

namespace Cert.ReferenceIdeal.Hand

open Cert.ReferenceIdeal Cert.ReferenceIdeal.Gen Cert.ReferenceIdeal.Read Cert.Value
open Idealize.ShloMosaic Idealize.ShloMosaic.TcCoe
open scoped BigOperators

/-! ## The picked logit -/

/-- A small word read signed is its number. -/
theorem small_toNat {n : ℕ} (hn : n < 2 ^ 31) : (BitVec.ofNat 32 n).toInt.toNat = n := by
  have h : (BitVec.ofNat 32 n).toNat = n := by rw [BitVec.toNat_ofNat]; omega
  rw [BitVec.toInt_eq_toNat_of_lt (by omega), h]; rfl

/-- A small word is not negative, so counting from the end never applies to it. -/
theorem select_small {n : ℕ} (hn : n < 2 ^ 31) (y : BitVec 32) :
    Scalar.select (IntOp.cmpi .slt (BitVec.ofNat 32 n) 0#32) y (BitVec.ofNat 32 n) = BitVec.ofNat 32 n := by
  have h : (BitVec.ofNat 32 n).toNat = n := by rw [BitVec.toNat_ofNat]; omega
  have hs : BitVec.slt (BitVec.ofNat 32 n) 0#32 = false := by
    rw [BitVec.slt, BitVec.toInt_eq_toNat_of_lt (by omega), h]; simp
  show Scalar.select (BitVec.ofBool (BitVec.slt (BitVec.ofNat 32 n) 0#32)) y _ = _
  rw [hs]; rfl

/-- The gather reads each row at the two coordinates its start index gives, read signed and clamped. -/
theorem gather_apply {α : Type} (y : S512x16384.Idx → α) (idx : IVec S512x2 32) (r : Fin 512) :
    Host.gather gather_S512x16384_S512x2_S512_n_01_n_n_01_1_11 y idx (ix1 r)
      = y (ix2 ⟨min (idx (ix2 r 0)).toInt.toNat 511, by omega⟩ ⟨min (idx (ix2 r 1)).toInt.toNat 16383, by omega⟩) := by
  have key : ∀ (a : Fin S512x16384.rank) (k : Fin 2) (ha : a ∈ gather_S512x16384_S512x2_S512_n_01_n_n_01_1_11.startIndexMap)
      (hc : a ∈ gather_S512x16384_S512x2_S512_n_01_n_n_01_1_11.collapsedSliceDims)
      (hk : gather_S512x16384_S512x2_S512_n_01_n_n_01_1_11.startIndexMap.idxOf a = k.val),
      (gather_S512x16384_S512x2_S512_n_01_n_n_01_1_11.operandIdx (ix1 r) idx a).val
        = min (idx (ix2 r k)).toInt.toNat
            (S512x16384.size a - gather_S512x16384_S512x2_S512_n_01_n_n_01_1_11.sliceSizes a) := by
    intro a k ha hc hk
    show gather_S512x16384_S512x2_S512_n_01_n_n_01_1_11.start _ idx a
      + gather_S512x16384_S512x2_S512_n_01_n_n_01_1_11.batchCoord _ a
      + gather_S512x16384_S512x2_S512_n_01_n_n_01_1_11.offCoord _ a = _
    rw [GatherDims.batchCoord_eq_zero _ _ _ List.not_mem_nil,
      GatherDims.offCoord_eq_zero _ _ _ fun h => ((GatherDims.mem_sKept _ _).mp h).1 hc]
    rw [Nat.add_zero, GatherDims.start, dif_pos ha]
    congr 4
    funext b; apply Fin.ext
    match b with
    | ⟨0, _⟩ => rfl
    | ⟨1, _⟩ => exact hk
  refine congrArg y (funext fun a => Fin.ext ?_)
  match a with
  | ⟨0, _⟩ => exact key 0 0 (by decide) (by decide) rfl
  | ⟨1, _⟩ => exact key 1 1 (by decide) (by decide) rfl

variable (x : Acts) (w : Weights) (lab : S512x1.Idx → BitVec 32) (l : Fin 512 → Fin 16384)

/-- The reference's logits. -/
theorem v1_apply (r : Fin 512) (v : Fin 16384) : val_main_v1 (F := Ideal) x w (ix2 r v) = logit x w r v := by
  rw [val_main_v1_apply]
  refine Finset.sum_congr rfl fun k _ => ?_
  have hl : lidx_main_v1 (ix2 r v) k = ix2 r k := funext fun a => by match a with | ⟨0, _⟩ => rfl | ⟨1, _⟩ => rfl
  have hr : ridx_main_v1 (ix2 r v) k = ix2 k v := funext fun a => by match a with | ⟨0, _⟩ => rfl | ⟨1, _⟩ => rfl
  rw [hl, hr]

/-- The start index of a row: the row's number, then its label. -/
theorem v25_row (r : Fin 512) : val_main_v25 (F := Ideal) lab (ix2 r 0) = BitVec.ofNat 32 r.val := by
  refine (concatenate_pair_apply_left (s₁ := S512x1) (s₂ := S512x1) (t := S512x2) 1 _ _ _ (ix2 r 0) rfl (ix2 r 0) fun b => by
    match b with | ⟨0, _⟩ => rfl | ⟨1, _⟩ => rfl).trans ?_
  rw [val_main_v23_apply, val_main_v17_apply, val_main_v14_apply, val_main_v12_apply, val_main_v13_apply, val_main_c_apply]
  exact select_small (by have := r.isLt; show r.val < _; omega) _
/-- The second coordinate of a row's start index is the row's label. -/
theorem v25_label {lab : S512x1.Idx → BitVec 32} {l : Fin 512 → Fin 16384}
    (hl : ∀ r, lab (ix2 r 0) = BitVec.ofNat 32 (l r).val) (r : Fin 512) :
    val_main_v25 (F := Ideal) lab (ix2 r 1) = BitVec.ofNat 32 (l r).val := by
  refine (concatenate_pair_apply_right (s₁ := S512x1) (s₂ := S512x1) (t := S512x2) 1 _ _ _ (ix2 r 1) rfl rfl (ix2 r 0)
    (fun b hb => by match b with | ⟨0, _⟩ => rfl | ⟨1, _⟩ => exact absurd rfl hb) rfl).trans ?_
  have hi : idx_main_v0 (idx_main_v24 (ix2 r 0)) = ix2 r 0 := funext fun a => by
    match a with | ⟨0, _⟩ => exact Fin.ext (Nat.div_one _) | ⟨1, _⟩ => rfl
  rw [val_main_v24_apply, val_main_v22_apply, val_main_v19_apply, val_main_v18_apply, val_main_c_2_apply, val_main_v0_apply,
    hi, hl r]
  exact select_small (by have := (l r).isLt; omega) _

/-- The gather picks the label's logit. -/
theorem v26_apply {lab : S512x1.Idx → BitVec 32} {l : Fin 512 → Fin 16384}
    (hl : ∀ r, lab (ix2 r 0) = BitVec.ofNat 32 (l r).val) (r : Fin 512) :
    val_main_v26 (F := Ideal) x w lab (ix1 r) = logit x w r (l r) := by
  have hr := r.isLt; have hv := (l r).isLt
  rw [val_main_v26, gather_apply, ← v1_apply]
  refine congrArg _ (congrArg₂ ix2 (Fin.ext ?_) (Fin.ext ?_))
  · show min (val_main_v25 (F := Ideal) lab (ix2 r 0)).toInt.toNat 511 = r.val
    rw [v25_row, small_toNat (by omega)]; omega
  · show min (val_main_v25 (F := Ideal) lab (ix2 r 1)).toInt.toNat 16383 = (l r).val
    rw [v25_label hl, small_toNat (by omega)]; omega

/-! ## The shifted sum -/

variable {x w} (hx : ∀ i, ∃ a : ℝ, x i = (a : EReal)) (hw : ∀ i, ∃ a : ℝ, w i = (a : EReal))
include hx hw

/-- The row's maximum is a real number. -/
theorem v2_real (r : Fin 512) : ∃ M : ℝ, val_main_v2 (F := Ideal) x w (ix1 r) = (M : EReal) := by
  choose f hf using exists_logit hx hw r
  obtain ⟨M, hM⟩ := exists_fold_max (Finset.univ : Finset (Fin 16384)) Finset.univ_nonempty f
  refine ⟨M, ?_⟩
  have hred : S512x16384.Reduces [1] S512 := by decide
  have hb : (val_main_cst (F := Ideal)) (Shape.Idx.first h_S_) = (⊥ : EReal) := by
    show Ideal.ofBits .f32 0xFF800000#32 = ⊥
    simp [Ideal.ofBits, Ideal.ieee]
  rw [val_main_v2, Host.reduce_eq_fold_single FloatOps.maximumf _ _ _ hred, hb, ← hM]
  have hfun : (val_main_v1 (F := Ideal) x w) ∘ hred.lift (ix1 r) = fun v : Fin 16384 => (f v : EReal) := funext fun v => by
    refine Eq.trans ?_ ((v1_apply x w r v).trans (hf v))
    exact congrArg (val_main_v1 (F := Ideal) x w) (funext fun a => by match a with | ⟨0, _⟩ => rfl | ⟨1, _⟩ => rfl)
  rw [hfun]; rfl

/-- The maximum plus the logarithm of the shifted sum is the logarithm of the sum. -/
theorem v11_apply (r : Fin 512) :
    val_main_v11 (F := Ideal) x w (ix1 r) = Ideal.log (∑ v, Ideal.exp (logit x w r v)) := by
  choose f hf using exists_logit hx hw r
  obtain ⟨M, hM⟩ := v2_real hx hw r
  have h3 : ∀ i : S512x1.Idx, (i 0).val = r.val → val_main_v3 (F := Ideal) x w i = (M : EReal) := fun i hi => by
    rw [val_main_v3_apply, ← hM]
    exact congrArg _ (funext fun a => by match a with | ⟨0, _⟩ => exact Fin.ext hi)
  have h6 : ∀ v, val_main_v6 (F := Ideal) x w (ix2 r v) = Ideal.exp ((f v : EReal) - (M : EReal)) := fun v => by
    rw [val_main_v6_apply, val_main_v5_apply, val_main_v4_apply, v1_apply, hf v, h3 _ rfl]; rfl
  have h8 : val_main_v8 (F := Ideal) x w (idx_main_v11 (ix1 r)) = ∑ v, Ideal.exp ((f v : EReal) - (M : EReal)) := by
    rw [val_main_v8_apply, val_main_v7_apply, val_main_cst_0_apply]
    have h0 : (FloatOps.ofBits .f32 0x00000000#32 : Ideal .f32) = 0 := Ideal.ofBits_zero_f32
    rw [h0]
    refine (zero_add _).trans (Finset.sum_congr rfl fun v _ => ?_)
    rw [← h6 v]
    exact congrArg _ (funext fun a => by
      match a with | ⟨0, _⟩ => exact Fin.ext (Nat.div_one _) | ⟨1, _⟩ => rfl)
  rw [val_main_v11_apply, val_main_v10_apply, val_main_v9_apply, h8, h3 _ (Nat.div_one _)]
  simp only [hf]
  haveI : NeZero 16384 := ⟨by norm_num⟩
  have h := shifted_log f M
  generalize (∑ v, Ideal.exp ((f v : EReal) - (M : EReal))) = s at h ⊢
  exact h

/-- The reference's result is each row's loss. -/
theorem v28_apply {lab : S512x1.Idx → BitVec 32} {l : Fin 512 → Fin 16384}
    (hl : ∀ r, lab (ix2 r 0) = BitVec.ofNat 32 (l r).val) (r : Fin 512) :
    val_main_v28 (F := Ideal) x w lab (ix2 r 0) = loss x w r (l r) := by
  have hi : idx_main_v28 (ix2 r 0) = ix1 r := funext fun a => by
    match a with | ⟨0, _⟩ => exact Fin.ext (by show r.val * 1 + 0 = r.val; omega)
  rw [val_main_v28_apply, hi, val_main_v27_apply, v11_apply hx hw, v26_apply x w hl]
  rfl

end Cert.ReferenceIdeal.Hand

end
-- ==== Proof.lean ====
/- The certificate's claims. The kernel runs to an end on every initial memory, leaves its arguments as they were and every
   semaphore at zero, as the words it computes with and over the extended reals; so does the reference; and where the
   activations and the weights are real numbers and the labels entries of the vocabulary, every device's result column is
   the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labelled_KernelIdeal
public import proofs.«01_k».proof.Proof.Gen.Pre_labelled_ReferenceIdeal
public import proofs.«01_k».proof.Proof.Gen.ReferenceIdeal.Run
public import proofs.«01_k».proof.Proof.Gen.ReferenceIdeal.Read
public import proofs.«01_k».proof.Proof.Kernel.Launch
public import proofs.«01_k».proof.Proof.KernelIdeal.Launch
public import proofs.«01_k».proof.Proof.Value.Domain
public import proofs.«01_k».proof.Proof.Value.Reference
public import Idealize.ShloMosaic.Lib.Quiescent
import Idealize.ShloMosaic.Adequacy
public import Idealize.ShloMosaic.Init

@[expose] public section

noncomputable section

namespace Cert.Proof

open Idealize.ShloMosaic Idealize.ShloMosaic.TcCoe Idealize.SL.Sem Cert.Value

/-- The kernel ends with its arguments unchanged and every semaphore at zero. -/
theorem kernel_quiescent : quiescent_Kernel := fun m g _ =>
  (θ_run _ _ _).mono (fun _ h => ⟨fun c => (h.1 c).2, h.2⟩) (Cert.Kernel.Hand.run (F := Bits) m g)

/-- The same over the extended reals. -/
theorem kernelIdeal_quiescent : quiescent_KernelIdeal := fun m g _ =>
  (θ_run _ _ _).mono (fun _ h => ⟨fun c => (h.1 c).2, h.2⟩) (Cert.KernelIdeal.Hand.run (F := Ideal) m g)

/-- The reference ends with its arguments unchanged and every semaphore at zero. -/
theorem reference_quiescent : quiescent_ReferenceIdeal := fun m g _ =>
  (θ_run _ _ _).mono (fun r h => ⟨fun c => (h c).2, sem_eq_zero_of_no_sems (by decide) r.2⟩)
    (Cert.ReferenceIdeal.Value.run (F := Ideal) m g)

/-- Where the precondition holds and each device holds its part of the reference's arrays, every device's result is the
    reference's. -/
theorem kernel_computes_reference : algebraic_KernelIdeal_ReferenceIdeal_pre_labelled_KernelIdeal := by
  intro m g m' g' hpre hag
  have hd := fun c => domain _ _ _ (hpre c)
  have hx : ∀ i, ∃ a : ℝ, m' (((0 : Dev Cert.ReferenceIdeal.nD).tc : Thread Cert.ReferenceIdeal.nD Cert.ReferenceIdeal.τ).loc
      Cert.ReferenceIdeal.main_arg0) i = (a : EReal) := fun i => by
    obtain ⟨a, ha⟩ := (hd 0).1 i
    exact ⟨a, (congrFun (hag 0).1 i).symm.trans ha⟩
  have hw : ∀ i, ∃ a : ℝ, m' (((0 : Dev Cert.ReferenceIdeal.nD).tc : Thread Cert.ReferenceIdeal.nD Cert.ReferenceIdeal.τ).loc
      Cert.ReferenceIdeal.main_arg1) i = (a : EReal) := fun i => by
    rw [eq_ix2 i]
    refine weights_real _ (fun c k v => ?_) _ _
    obtain ⟨a, ha⟩ := (hd c).2.1 (ix2 k v)
    exact ⟨a, (congrFun (hag c).2.1 (ix2 k v)).symm.trans ha⟩
  have hl : ∀ r : Fin 512, ∃ l : Fin 16384,
      m' (((0 : Dev Cert.ReferenceIdeal.nD).tc : Thread Cert.ReferenceIdeal.nD Cert.ReferenceIdeal.τ).loc
        Cert.ReferenceIdeal.main_arg2) (ix2 r 0) = BitVec.ofNat 32 l.val := fun r => by
    have hlt := (hd 0).2.2 (ix2 r 0)
    refine ⟨⟨_, hlt⟩, (congrFun (hag 0).2.2 (ix2 r 0)).symm.trans ?_⟩
    exact ((BitVec.ofNat_toNat 32 _).trans (BitVec.setWidth_eq _)).symm
  choose l hl using hl
  have holds : Cert.KernelIdeal.Hand.Holds m _ _ l :=
    ⟨fun c => (hag c).1, fun c => (hag c).2.1, fun c r => (congrFun (hag c).2.2 (ix2 r 0)).trans (hl r)⟩
  refine ⟨Cert.ReferenceIdeal.Read.val_main_v28 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run _ _ _).mono (fun r h c => ⟨((h.1 c).1).trans (funext fun i => ?_), (h.1 c).2⟩)
      (Cert.KernelIdeal.Hand.run (F := Ideal) m g)
    have hi : i = ix2 (i 0) 0 := (eq_ix2 i).trans (congrArg (ix2 (i 0)) (Subsingleton.elim _ _))
    rw [hi]
    exact (Cert.KernelIdeal.Hand.outAt_apply holds c (i 0)).trans (Cert.ReferenceIdeal.Hand.v28_apply hx hw hl (i 0)).symm
  · exact (θ_run _ _ _).mono (fun r h => ⟨((h 0).1).trans (Cert.ReferenceIdeal.Read.val_main_v28_eq _ _ _), (h 0).2⟩)
      (Cert.ReferenceIdeal.Value.run (F := Ideal) m' g')

/-- Everything the certificate claims. -/
theorem claim : Cert.Claim := ⟨Cert.Kernel.Gen.facts, Cert.KernelIdeal.Gen.facts, Cert.ReferenceIdeal.Gen.facts,
  Cert.Pre_labelled_KernelIdeal.Gen.facts, Cert.Pre_labelled_ReferenceIdeal.Gen.facts,
  kernel_quiescent, kernelIdeal_quiescent, fun m g _ => kernelIdeal_quiescent m g trivial,
  reference_quiescent, fun m g _ => reference_quiescent m g trivial, trivial, kernel_computes_reference⟩

end Cert.Proof

end
